-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3x224x224 : Shape := ⟨4, ![4, 3, 224, 224]⟩
abbrev S32x3x3x3 : Shape := ⟨4, ![32, 3, 3, 3]⟩
abbrev S64x32x3x3 : Shape := ⟨4, ![64, 32, 3, 3]⟩
abbrev S128x64x3x3 : Shape := ⟨4, ![128, 64, 3, 3]⟩
abbrev S128x128x3x3 : Shape := ⟨4, ![128, 128, 3, 3]⟩
abbrev S512x128 : Shape := ⟨2, ![512, 128]⟩
abbrev S4x224x224x3 : Shape := ⟨4, ![4, 224, 224, 3]⟩
abbrev S_ : Shape := ⟨0, ![]⟩
abbrev S4x226x226x3 : Shape := ⟨4, ![4, 226, 226, 3]⟩
abbrev S4x112x112x3 : Shape := ⟨4, ![4, 112, 112, 3]⟩
abbrev S4x14x8x14x8x3 : Shape := ⟨6, ![4, 14, 8, 14, 8, 3]⟩
abbrev S4x14x8x14x8x1x3 : Shape := ⟨7, ![4, 14, 8, 14, 8, 1, 3]⟩
abbrev S4x14x8x14x8x9x3 : Shape := ⟨7, ![4, 14, 8, 14, 8, 9, 3]⟩
abbrev S4x14x8x16x8x9x3 : Shape := ⟨7, ![4, 14, 8, 16, 8, 9, 3]⟩
abbrev S8x8x4x14x16x9x3 : Shape := ⟨7, ![8, 8, 4, 14, 16, 9, 3]⟩
abbrev S64x4x14x432 : Shape := ⟨4, ![64, 4, 14, 432]⟩
abbrev S3x3x3x32 : Shape := ⟨4, ![3, 3, 3, 32]⟩
abbrev S27x32 : Shape := ⟨2, ![27, 32]⟩
abbrev S3x3x32x64 : Shape := ⟨4, ![3, 3, 32, 64]⟩
abbrev S9x32x64 : Shape := ⟨3, ![9, 32, 64]⟩
abbrev S3x3x64x128 : Shape := ⟨4, ![3, 3, 64, 128]⟩
abbrev S9x64x128 : Shape := ⟨3, ![9, 64, 128]⟩
abbrev S3x3x128x128 : Shape := ⟨4, ![3, 3, 128, 128]⟩
abbrev S9x128x128 : Shape := ⟨3, ![9, 128, 128]⟩
abbrev S128x512 : Shape := ⟨2, ![128, 512]⟩
abbrev S4x14x14 : Shape := ⟨3, ![4, 14, 14]⟩
abbrev S64x4x16x16x32 : Shape := ⟨5, ![64, 4, 16, 16, 32]⟩
abbrev S16x4x16x16x64 : Shape := ⟨5, ![16, 4, 16, 16, 64]⟩
abbrev S4x4x16x16x128 : Shape := ⟨5, ![4, 4, 16, 16, 128]⟩
abbrev S4x16x32 : Shape := ⟨3, ![4, 16, 32]⟩
abbrev S1x4x1x16x32 : Shape := ⟨5, ![1, 4, 1, 16, 32]⟩
abbrev S1x4x16x1x32 : Shape := ⟨5, ![1, 4, 16, 1, 32]⟩
abbrev S4x16x64 : Shape := ⟨3, ![4, 16, 64]⟩
abbrev S1x4x1x16x64 : Shape := ⟨5, ![1, 4, 1, 16, 64]⟩
abbrev S1x4x16x1x64 : Shape := ⟨5, ![1, 4, 16, 1, 64]⟩
abbrev S4x16x128 : Shape := ⟨3, ![4, 16, 128]⟩
abbrev S1x4x1x16x128 : Shape := ⟨5, ![1, 4, 1, 16, 128]⟩
abbrev S1x4x16x1x128 : Shape := ⟨5, ![1, 4, 16, 1, 128]⟩
abbrev S1x4x14x432 : Shape := ⟨4, ![1, 4, 14, 432]⟩
abbrev S4x14x432 : Shape := ⟨3, ![4, 14, 432]⟩
abbrev S4x14x16x27 : Shape := ⟨4, ![4, 14, 16, 27]⟩
abbrev S4x14x16x32 : Shape := ⟨4, ![4, 14, 16, 32]⟩
abbrev S4x14x14x32 : Shape := ⟨4, ![4, 14, 14, 32]⟩
abbrev S1x4x14x14x32 : Shape := ⟨5, ![1, 4, 14, 14, 32]⟩
abbrev S1x4x14x16x32 : Shape := ⟨5, ![1, 4, 14, 16, 32]⟩
abbrev S1x32x64 : Shape := ⟨3, ![1, 32, 64]⟩
abbrev S32x64 : Shape := ⟨2, ![32, 64]⟩
abbrev S4x14x16x64 : Shape := ⟨4, ![4, 14, 16, 64]⟩
abbrev S4x14x14x64 : Shape := ⟨4, ![4, 14, 14, 64]⟩
abbrev S1x4x14x14x64 : Shape := ⟨5, ![1, 4, 14, 14, 64]⟩
abbrev S4x14x15x32 : Shape := ⟨4, ![4, 14, 15, 32]⟩
abbrev S4x14x1x32 : Shape := ⟨4, ![4, 14, 1, 32]⟩
abbrev S1x4x14x16x64 : Shape := ⟨5, ![1, 4, 14, 16, 64]⟩
abbrev S1x64x128 : Shape := ⟨3, ![1, 64, 128]⟩
abbrev S64x128 : Shape := ⟨2, ![64, 128]⟩
abbrev S4x14x16x128 : Shape := ⟨4, ![4, 14, 16, 128]⟩
abbrev S4x14x14x128 : Shape := ⟨4, ![4, 14, 14, 128]⟩
abbrev S1x4x14x14x128 : Shape := ⟨5, ![1, 4, 14, 14, 128]⟩
abbrev S4x14x15x64 : Shape := ⟨4, ![4, 14, 15, 64]⟩
abbrev S4x14x1x64 : Shape := ⟨4, ![4, 14, 1, 64]⟩
abbrev S1x4x14x16x128 : Shape := ⟨5, ![1, 4, 14, 16, 128]⟩
abbrev S1x128x128 : Shape := ⟨3, ![1, 128, 128]⟩
abbrev S128x128 : Shape := ⟨2, ![128, 128]⟩
abbrev S4x14x15x128 : Shape := ⟨4, ![4, 14, 15, 128]⟩
abbrev S4x14x1x128 : Shape := ⟨4, ![4, 14, 1, 128]⟩
abbrev S4x14x16 : Shape := ⟨3, ![4, 14, 16]⟩
abbrev S4x14x16x1 : Shape := ⟨4, ![4, 14, 16, 1]⟩
abbrev S4x14x16x512 : Shape := ⟨4, ![4, 14, 16, 512]⟩
abbrev S512 : Shape := ⟨1, ![512]⟩
abbrev S1x1x1x512 : Shape := ⟨4, ![1, 1, 1, 512]⟩
abbrev S4x14x14x1 : Shape := ⟨4, ![4, 14, 14, 1]⟩

abbrev nBuf : Space → Nat
  | .hbm => 54
  | .vmem => 11
  | .smem => 0
  | _ => 0

abbrev bufTy : (tb : Table) → Fin (tcTables nBuf tb) → BufTy
  | .hbm, ⟨0, _⟩ => ⟨S4x3x224x224, .f32⟩
  | .hbm, ⟨1, _⟩ => ⟨S32x3x3x3, .f32⟩
  | .hbm, ⟨2, _⟩ => ⟨S64x32x3x3, .f32⟩
  | .hbm, ⟨3, _⟩ => ⟨S128x64x3x3, .f32⟩
  | .hbm, ⟨4, _⟩ => ⟨S128x128x3x3, .f32⟩
  | .hbm, ⟨5, _⟩ => ⟨S512x128, .f32⟩
  | .hbm, ⟨6, _⟩ => ⟨S4x224x224x3, .f32⟩
  | .hbm, ⟨7, _⟩ => ⟨S_, .i32⟩
  | .hbm, ⟨8, _⟩ => ⟨S_, .f32⟩
  | .hbm, ⟨9, _⟩ => ⟨S4x226x226x3, .f32⟩
  | .hbm, ⟨10, _⟩ => ⟨S4x112x112x3, .f32⟩
  | .hbm, ⟨11, _⟩ => ⟨S4x14x8x14x8x3, .f32⟩
  | .hbm, ⟨12, _⟩ => ⟨S4x112x112x3, .f32⟩
  | .hbm, ⟨13, _⟩ => ⟨S4x14x8x14x8x3, .f32⟩
  | .hbm, ⟨14, _⟩ => ⟨S4x112x112x3, .f32⟩
  | .hbm, ⟨15, _⟩ => ⟨S4x14x8x14x8x3, .f32⟩
  | .hbm, ⟨16, _⟩ => ⟨S4x112x112x3, .f32⟩
  | .hbm, ⟨17, _⟩ => ⟨S4x14x8x14x8x3, .f32⟩
  | .hbm, ⟨18, _⟩ => ⟨S4x112x112x3, .f32⟩
  | .hbm, ⟨19, _⟩ => ⟨S4x14x8x14x8x3, .f32⟩
  | .hbm, ⟨20, _⟩ => ⟨S4x112x112x3, .f32⟩
  | .hbm, ⟨21, _⟩ => ⟨S4x14x8x14x8x3, .f32⟩
  | .hbm, ⟨22, _⟩ => ⟨S4x112x112x3, .f32⟩
  | .hbm, ⟨23, _⟩ => ⟨S4x14x8x14x8x3, .f32⟩
  | .hbm, ⟨24, _⟩ => ⟨S4x112x112x3, .f32⟩
  | .hbm, ⟨25, _⟩ => ⟨S4x14x8x14x8x3, .f32⟩
  | .hbm, ⟨26, _⟩ => ⟨S4x112x112x3, .f32⟩
  | .hbm, ⟨27, _⟩ => ⟨S4x14x8x14x8x3, .f32⟩
  | .hbm, ⟨28, _⟩ => ⟨S4x14x8x14x8x1x3, .f32⟩
  | .hbm, ⟨29, _⟩ => ⟨S4x14x8x14x8x1x3, .f32⟩
  | .hbm, ⟨30, _⟩ => ⟨S4x14x8x14x8x1x3, .f32⟩
  | .hbm, ⟨31, _⟩ => ⟨S4x14x8x14x8x1x3, .f32⟩
  | .hbm, ⟨32, _⟩ => ⟨S4x14x8x14x8x1x3, .f32⟩
  | .hbm, ⟨33, _⟩ => ⟨S4x14x8x14x8x1x3, .f32⟩
  | .hbm, ⟨34, _⟩ => ⟨S4x14x8x14x8x1x3, .f32⟩
  | .hbm, ⟨35, _⟩ => ⟨S4x14x8x14x8x1x3, .f32⟩
  | .hbm, ⟨36, _⟩ => ⟨S4x14x8x14x8x1x3, .f32⟩
  | .hbm, ⟨37, _⟩ => ⟨S4x14x8x14x8x9x3, .f32⟩
  | .hbm, ⟨38, _⟩ => ⟨S_, .i32⟩
  | .hbm, ⟨39, _⟩ => ⟨S_, .f32⟩
  | .hbm, ⟨40, _⟩ => ⟨S4x14x8x16x8x9x3, .f32⟩
  | .hbm, ⟨41, _⟩ => ⟨S8x8x4x14x16x9x3, .f32⟩
  | .hbm, ⟨42, _⟩ => ⟨S64x4x14x432, .f32⟩
  | .hbm, ⟨43, _⟩ => ⟨S3x3x3x32, .f32⟩
  | .hbm, ⟨44, _⟩ => ⟨S27x32, .f32⟩
  | .hbm, ⟨45, _⟩ => ⟨S3x3x32x64, .f32⟩
  | .hbm, ⟨46, _⟩ => ⟨S9x32x64, .f32⟩
  | .hbm, ⟨47, _⟩ => ⟨S3x3x64x128, .f32⟩
  | .hbm, ⟨48, _⟩ => ⟨S9x64x128, .f32⟩
  | .hbm, ⟨49, _⟩ => ⟨S3x3x128x128, .f32⟩
  | .hbm, ⟨50, _⟩ => ⟨S9x128x128, .f32⟩
  | .hbm, ⟨51, _⟩ => ⟨S128x512, .f32⟩
  | .hbm, ⟨52, _⟩ => ⟨S4x14x14, .f32⟩
  | .hbm, ⟨53, _⟩ => ⟨S4x14x14x1, .f32⟩
  | .local _ .vmem, ⟨0, _⟩ => ⟨S64x4x14x432, .f32⟩
  | .local _ .vmem, ⟨1, _⟩ => ⟨S27x32, .f32⟩
  | .local _ .vmem, ⟨2, _⟩ => ⟨S9x32x64, .f32⟩
  | .local _ .vmem, ⟨3, _⟩ => ⟨S9x64x128, .f32⟩
  | .local _ .vmem, ⟨4, _⟩ => ⟨S9x128x128, .f32⟩
  | .local _ .vmem, ⟨5, _⟩ => ⟨S128x512, .f32⟩
  | .local _ .vmem, ⟨6, _⟩ => ⟨S512x128, .f32⟩
  | .local _ .vmem, ⟨7, _⟩ => ⟨S4x14x14, .f32⟩
  | .local _ .vmem, ⟨8, _⟩ => ⟨S64x4x16x16x32, .f32⟩
  | .local _ .vmem, ⟨9, _⟩ => ⟨S16x4x16x16x64, .f32⟩
  | .local _ .vmem, ⟨10, _⟩ => ⟨S4x4x16x16x128, .f32⟩
  | _, _ => ⟨S4x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_0 : Ref sig .tc := ⟨.hbm, 38, rfl⟩
abbrev main_call1_v0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_off1 (k0_t1 : Fin k0_t1_loop.trips) : Fin 5 → Nat :=
  let c0_i32 : BitVec 32 := 0#32
  let c1_i32 : BitVec 32 := 1#32
  let arg11 : BitVec 32 := Scf.iv c0_i32 c1_i32 k0_t1
  let v647 : Index := Scalar.indexCast arg11
  let c0_641 : Index := 0#32
  let c14_642 : Index := 14#32
  let c0_643 : Index := 0#32
  let c0_644 : Index := 0#32
  ![v647.toNat, 0, 14, 0, 0]
def k0_off2 (k0_t1 : Fin k0_t1_loop.trips) : Fin 5 → Nat :=
  let c0_i32 : BitVec 32 := 0#32
  let c1_i32 : BitVec 32 := 1#32
  let arg11 : BitVec 32 := Scf.iv c0_i32 c1_i32 k0_t1
  let v652 : Index := Scalar.indexCast arg11
  let c0_646 : Index := 0#32
  let c0_647 : Index := 0#32
  let c14_648 : Index := 14#32
  let c0_649 : Index := 0#32
  ![v652.toNat, 0, 0, 14, 0]
@[reducible] def k0_t2_loop : Scf.Loop 32 :=
  let c0_i32_1 : BitVec 32 := 0#32
  let c16_i32 : BitVec 32 := 16#32
  let v1 : BitVec 32 := Scalar.addi c0_i32_1 c16_i32
  let c1_i32_2 : BitVec 32 := 1#32
  ⟨c0_i32_1, v1, c1_i32_2⟩
def k0_off3 (k0_t2 : Fin k0_t2_loop.trips) : Fin 5 → Nat :=
  let c0_i32_1 : BitVec 32 := 0#32
  let c1_i32_2 : BitVec 32 := 1#32
  let arg11 : BitVec 32 := Scf.iv c0_i32_1 c1_i32_2 k0_t2
  let v647 : Index := Scalar.indexCast arg11
  let c0_641 : Index := 0#32
  let c14_642 : Index := 14#32
  let c0_643 : Index := 0#32
  let c0_644 : Index := 0#32
  ![v647.toNat, 0, 14, 0, 0]
def k0_off4 (k0_t2 : Fin k0_t2_loop.trips) : Fin 5 → Nat :=
  let c0_i32_1 : BitVec 32 := 0#32
  let c1_i32_2 : BitVec 32 := 1#32
  let arg11 : BitVec 32 := Scf.iv c0_i32_1 c1_i32_2 k0_t2
  let v652 : Index := Scalar.indexCast arg11
  let c0_646 : Index := 0#32
  let c0_647 : Index := 0#32
  let c14_648 : Index := 14#32
  let c0_649 : Index := 0#32
  ![v652.toNat, 0, 0, 14, 0]
@[reducible] def k0_t3_loop : Scf.Loop 32 :=
  let c0_i32_4 : BitVec 32 := 0#32
  let c4_i32 : BitVec 32 := 4#32
  let v2 : BitVec 32 := Scalar.addi c0_i32_4 c4_i32
  let c1_i32_5 : BitVec 32 := 1#32
  ⟨c0_i32_4, v2, c1_i32_5⟩
def k0_off5 (k0_t3 : Fin k0_t3_loop.trips) : Fin 5 → Nat :=
  let c0_i32_4 : BitVec 32 := 0#32
  let c1_i32_5 : BitVec 32 := 1#32
  let arg11 : BitVec 32 := Scf.iv c0_i32_4 c1_i32_5 k0_t3
  let v647 : Index := Scalar.indexCast arg11
  let c0_641 : Index := 0#32
  let c14_642 : Index := 14#32
  let c0_643 : Index := 0#32
  let c0_644 : Index := 0#32
  ![v647.toNat, 0, 14, 0, 0]
def k0_off6 (k0_t3 : Fin k0_t3_loop.trips) : Fin 5 → Nat :=
  let c0_i32_4 : BitVec 32 := 0#32
  let c1_i32_5 : BitVec 32 := 1#32
  let arg11 : BitVec 32 := Scf.iv c0_i32_4 c1_i32_5 k0_t3
  let v652 : Index := Scalar.indexCast arg11
  let c0_646 : Index := 0#32
  let c0_647 : Index := 0#32
  let c14_648 : Index := 14#32
  let c0_649 : Index := 0#32
  ![v652.toNat, 0, 0, 14, 0]
@[reducible] def k0_t4_loop : Scf.Loop 32 :=
  let c0_i32_8 : BitVec 32 := 0#32
  let c64_i32_9 : BitVec 32 := 64#32
  let v5 : BitVec 32 := Scalar.addi c0_i32_8 c64_i32_9
  let c1_i32_10 : BitVec 32 := 1#32
  ⟨c0_i32_8, v5, c1_i32_10⟩
def k0_off7 (k0_t4 : Fin k0_t4_loop.trips) : Fin 4 → Nat :=
  let c0_i32_8 : BitVec 32 := 0#32
  let c1_i32_10 : BitVec 32 := 1#32
  let arg11 : BitVec 32 := Scf.iv c0_i32_8 c1_i32_10 k0_t4
  let v646 : Index := Scalar.indexCast arg11
  let c0_640 : Index := 0#32
  let c0_641 : Index := 0#32
  let c0_642 : Index := 0#32
  ![v646.toNat, 0, 0, 0]
def k0_off8 (k0_t4 : Fin k0_t4_loop.trips) : Fin 5 → Nat :=
  let c0_i32_8 : BitVec 32 := 0#32
  let c1_i32_10 : BitVec 32 := 1#32
  let arg11 : BitVec 32 := Scf.iv c0_i32_8 c1_i32_10 k0_t4
  let v654 : Index := Scalar.indexCast arg11
  let c0_645 : Index := 0#32
  let c0_646 : Index := 0#32
  let c0_647 : Index := 0#32
  let c0_648 : Index := 0#32
  ![v654.toNat, 0, 0, 0, 0]
@[reducible] def k0_t5_loop : Scf.Loop 32 :=
  let c0_i32_12 : BitVec 32 := 0#32
  let c9_i32 : BitVec 32 := 9#32
  let v6 : BitVec 32 := Scalar.addi c0_i32_12 c9_i32
  let c1_i32_13 : BitVec 32 := 1#32
  ⟨c0_i32_12, v6, c1_i32_13⟩
def k0_off9 (k0_t5 : Fin k0_t5_loop.trips) (c0_i32_654 : BitVec 32) (c0_i32_657 : BitVec 32) : Fin 5 → Nat :=
  let c2_i32_653 : BitVec 32 := 2#32
  let c0_i32_12 : BitVec 32 := 0#32
  let c1_i32_13 : BitVec 32 := 1#32
  let arg11 : BitVec 32 := Scf.iv c0_i32_12 c1_i32_13 k0_t5
  let c0_i32_641 : BitVec 32 := 0#32
  let v647 : BitVec 1 := Scalar.cmpi .sgt arg11 c0_i32_641
  let v648 : BitVec 32 := Scalar.extui v647
  let c0_i32_642 : BitVec 32 := 0#32
  let v649 : BitVec 1 := Scalar.cmpi .slt arg11 c0_i32_642
  let v650 : BitVec 32 := Scalar.extui v649
  let v651 : BitVec 32 := Scalar.subi v648 v650
  let c3_i32_640 : BitVec 32 := 3#32
  let c0_i32_643 : BitVec 32 := 0#32
  let v652 : BitVec 1 := Scalar.cmpi .sgt c3_i32_640 c0_i32_643
  let v653 : BitVec 32 := Scalar.extui v652
  let c0_i32_644 : BitVec 32 := 0#32
  let v654 : BitVec 1 := Scalar.cmpi .slt c3_i32_640 c0_i32_644
  let v655 : BitVec 32 := Scalar.extui v654
  let v656 : BitVec 32 := Scalar.subi v653 v655
  let v657 : BitVec 1 := Scalar.cmpi .ne v651 v656
  let v658 : BitVec 32 := Scalar.remsi arg11 c3_i32_640
  let c0_i32_645 : BitVec 32 := 0#32
  let v659 : BitVec 1 := Scalar.cmpi .ne v658 c0_i32_645
  let v660 : BitVec 1 := Scalar.andi v657 v659
  let v646 : BitVec 32 := Scalar.divsi arg11 c3_i32_640
  let c1_i32_646 : BitVec 32 := 1#32
  let v661 : BitVec 32 := Scalar.subi v646 c1_i32_646
  let v662 : BitVec 32 := Scalar.select v660 v661 v646
  let v673 : BitVec 32 := Scalar.muli c2_i32_653 v662
  let v674 : BitVec 32 := Scalar.addi v673 c0_i32_654
  let c0_i32_655 : BitVec 32 := 0#32
  let v675 : BitVec 32 := Scalar.subi v674 c0_i32_655
  let c8_i32_659 : BitVec 32 := 8#32
  let v679 : BitVec 32 := Scalar.muli v675 c8_i32_659
  let c2_i32_656 : BitVec 32 := 2#32
  let c3_i32_647 : BitVec 32 := 3#32
  let c0_i32_648 : BitVec 32 := 0#32
  let v663 : BitVec 1 := Scalar.cmpi .eq c3_i32_647 c0_i32_648
  let c1_i32_649 : BitVec 32 := 1#32
  let v664 : BitVec 32 := Scalar.select v663 c1_i32_649 c3_i32_647
  let v665 : BitVec 32 := Scalar.remsi arg11 v664
  let c0_i32_651 : BitVec 32 := 0#32
  let v667 : BitVec 1 := Scalar.cmpi .slt v665 c0_i32_651
  let c0_i32_652 : BitVec 32 := 0#32
  let v668 : BitVec 1 := Scalar.cmpi .slt v664 c0_i32_652
  let v669 : BitVec 1 := Scalar.xori v667 v668
  let c0_i32_650 : BitVec 32 := 0#32
  let v666 : BitVec 1 := Scalar.cmpi .ne v665 c0_i32_650
  let v670 : BitVec 1 := Scalar.andi v669 v666
  let v671 : BitVec 32 := Scalar.addi v665 v664
  let v672 : BitVec 32 := Scalar.select v670 v671 v665
  let v676 : BitVec 32 := Scalar.muli c2_i32_656 v672
  let v677 : BitVec 32 := Scalar.addi v676 c0_i32_657
  let c0_i32_658 : BitVec 32 := 0#32
  let v678 : BitVec 32 := Scalar.subi v677 c0_i32_658
  let v680 : BitVec 32 := Scalar.addi v679 v678
  let v681 : Index := Scalar.indexCast v680
  let c0_660 : Index := 0#32
  let c0_661 : Index := 0#32
  let c0_662 : Index := 0#32
  let c0_663 : Index := 0#32
  ![v681.toNat, 0, 0, 0, 0]
def k0_off10 (k0_t5 : Fin k0_t5_loop.trips) : Fin 5 → Nat :=
  let c0_i32_12 : BitVec 32 := 0#32
  let c1_i32_13 : BitVec 32 := 1#32
  let arg11 : BitVec 32 := Scf.iv c0_i32_12 c1_i32_13 k0_t5
  let c0_i32_641 : BitVec 32 := 0#32
  let v647 : BitVec 1 := Scalar.cmpi .sgt arg11 c0_i32_641
  let v648 : BitVec 32 := Scalar.extui v647
  let c0_i32_642 : BitVec 32 := 0#32
  let v649 : BitVec 1 := Scalar.cmpi .slt arg11 c0_i32_642
  let v650 : BitVec 32 := Scalar.extui v649
  let v651 : BitVec 32 := Scalar.subi v648 v650
  let c3_i32_640 : BitVec 32 := 3#32
  let c0_i32_643 : BitVec 32 := 0#32
  let v652 : BitVec 1 := Scalar.cmpi .sgt c3_i32_640 c0_i32_643
  let v653 : BitVec 32 := Scalar.extui v652
  let c0_i32_644 : BitVec 32 := 0#32
  let v654 : BitVec 1 := Scalar.cmpi .slt c3_i32_640 c0_i32_644
  let v655 : BitVec 32 := Scalar.extui v654
  let v656 : BitVec 32 := Scalar.subi v653 v655
  let v657 : BitVec 1 := Scalar.cmpi .ne v651 v656
  let v658 : BitVec 32 := Scalar.remsi arg11 c3_i32_640
  let c0_i32_645 : BitVec 32 := 0#32
  let v659 : BitVec 1 := Scalar.cmpi .ne v658 c0_i32_645
  let v660 : BitVec 1 := Scalar.andi v657 v659
  let v646 : BitVec 32 := Scalar.divsi arg11 c3_i32_640
  let c1_i32_646 : BitVec 32 := 1#32
  let v661 : BitVec 32 := Scalar.subi v646 c1_i32_646
  let v662 : BitVec 32 := Scalar.select v660 v661 v646
  let c4_i32_771 : BitVec 32 := 4#32
  let v792 : BitVec 32 := Scalar.muli v662 c4_i32_771
  let c3_i32_647 : BitVec 32 := 3#32
  let c0_i32_648 : BitVec 32 := 0#32
  let v663 : BitVec 1 := Scalar.cmpi .eq c3_i32_647 c0_i32_648
  let c1_i32_649 : BitVec 32 := 1#32
  let v664 : BitVec 32 := Scalar.select v663 c1_i32_649 c3_i32_647
  let v665 : BitVec 32 := Scalar.remsi arg11 v664
  let c0_i32_651 : BitVec 32 := 0#32
  let v667 : BitVec 1 := Scalar.cmpi .slt v665 c0_i32_651
  let c0_i32_652 : BitVec 32 := 0#32
  let v668 : BitVec 1 := Scalar.cmpi .slt v664 c0_i32_652
  let v669 : BitVec 1 := Scalar.xori v667 v668
  let c0_i32_650 : BitVec 32 := 0#32
  let v666 : BitVec 1 := Scalar.cmpi .ne v665 c0_i32_650
  let v670 : BitVec 1 := Scalar.andi v669 v666
  let v671 : BitVec 32 := Scalar.addi v665 v664
  let v672 : BitVec 32 := Scalar.select v670 v671 v665
  let v793 : BitVec 32 := Scalar.addi v792 v672
  let v794 : Index := Scalar.indexCast v793
  let c0_772 : Index := 0#32
  let c0_773 : Index := 0#32
  let c0_774 : Index := 0#32
  let c0_775 : Index := 0#32
  ![v794.toNat, 0, 0, 0, 0]
@[reducible] def k0_t6_loop : Scf.Loop 32 :=
  let c0_i32_15 : BitVec 32 := 0#32
  let c3_i32 : BitVec 32 := 3#32
  let v7 : BitVec 32 := Scalar.addi c0_i32_15 c3_i32
  let c1_i32_16 : BitVec 32 := 1#32
  ⟨c0_i32_15, v7, c1_i32_16⟩
def k0_off11 (k0_t6 : Fin k0_t6_loop.trips) (c48_i32 : BitVec 32) (c0_i32_641 : BitVec 32) : Fin 5 → Nat :=
  let c2_i32_640 : BitVec 32 := 2#32
  let c0_i32_15 : BitVec 32 := 0#32
  let c1_i32_16 : BitVec 32 := 1#32
  let arg11 : BitVec 32 := Scf.iv c0_i32_15 c1_i32_16 k0_t6
  let v646 : BitVec 32 := Scalar.muli c2_i32_640 arg11
  let v647 : BitVec 32 := Scalar.addi v646 c0_i32_641
  let c0_i32_642 : BitVec 32 := 0#32
  let v648 : BitVec 32 := Scalar.subi v647 c0_i32_642
  let v649 : BitVec 32 := Scalar.addi c48_i32 v648
  let v650 : Index := Scalar.indexCast v649
  let c0_643 : Index := 0#32
  let c0_644 : Index := 0#32
  let c0_645 : Index := 0#32
  let c0_646 : Index := 0#32
  ![v650.toNat, 0, 0, 0, 0]
def k0_off12 (k0_t6 : Fin k0_t6_loop.trips) (c0_i32_711 : BitVec 32) : Fin 5 → Nat :=
  let c0_i32_713 : BitVec 32 := 0#32
  let c2_i32_710 : BitVec 32 := 2#32
  let c0_i32_15 : BitVec 32 := 0#32
  let c1_i32_16 : BitVec 32 := 1#32
  let arg11 : BitVec 32 := Scf.iv c0_i32_15 c1_i32_16 k0_t6
  let v711 : BitVec 32 := Scalar.muli c2_i32_710 arg11
  let v712 : BitVec 32 := Scalar.addi v711 c0_i32_711
  let c0_i32_712 : BitVec 32 := 0#32
  let v713 : BitVec 32 := Scalar.subi v712 c0_i32_712
  let v714 : BitVec 32 := Scalar.addi c0_i32_713 v713
  let v715 : Index := Scalar.indexCast v714
  let c0_714 : Index := 0#32
  let c1_715 : Index := 1#32
  let c0_716 : Index := 0#32
  let c0_717 : Index := 0#32
  ![v715.toNat, 0, 1, 0, 0]
def k0_off13 (k0_t6 : Fin k0_t6_loop.trips) : Fin 5 → Nat :=
  let c12_i32_747 : BitVec 32 := 12#32
  let c0_i32_15 : BitVec 32 := 0#32
  let c1_i32_16 : BitVec 32 := 1#32
  let arg11 : BitVec 32 := Scf.iv c0_i32_15 c1_i32_16 k0_t6
  let v747 : BitVec 32 := Scalar.addi c12_i32_747 arg11
  let v748 : Index := Scalar.indexCast v747
  let c0_748 : Index := 0#32
  let c0_749 : Index := 0#32
  let c0_750 : Index := 0#32
  let c0_751 : Index := 0#32
  ![v748.toNat, 0, 0, 0, 0]
@[reducible] def k0_t7_loop : Scf.Loop 32 :=
  let c0_i32_18 : BitVec 32 := 0#32
  let c3_i32_19 : BitVec 32 := 3#32
  let v8 : BitVec 32 := Scalar.addi c0_i32_18 c3_i32_19
  let c1_i32_20 : BitVec 32 := 1#32
  ⟨c0_i32_18, v8, c1_i32_20⟩
def k0_off14 (k0_t7 : Fin k0_t7_loop.trips) (c0_i32_641 : BitVec 32) (c6_i32 : BitVec 32) : Fin 5 → Nat :=
  let c2_i32_640 : BitVec 32 := 2#32
  let c0_i32_18 : BitVec 32 := 0#32
  let c1_i32_20 : BitVec 32 := 1#32
  let arg11 : BitVec 32 := Scf.iv c0_i32_18 c1_i32_20 k0_t7
  let v646 : BitVec 32 := Scalar.muli c2_i32_640 arg11
  let v647 : BitVec 32 := Scalar.addi v646 c0_i32_641
  let c0_i32_642 : BitVec 32 := 0#32
  let v648 : BitVec 32 := Scalar.subi v647 c0_i32_642
  let c8_i32_643 : BitVec 32 := 8#32
  let v649 : BitVec 32 := Scalar.muli v648 c8_i32_643
  let v650 : BitVec 32 := Scalar.addi v649 c6_i32
  let v651 : Index := Scalar.indexCast v650
  let c0_644 : Index := 0#32
  let c0_645 : Index := 0#32
  let c0_646 : Index := 0#32
  let c0_647 : Index := 0#32
  ![v651.toNat, 0, 0, 0, 0]
def k0_off14_at (r : Fin 9) : BitVec 32 × BitVec 32 :=
  if r.val < 4 then
    if r.val < 2 then
      if r.val < 1 then
        (0#32, 6#32)
      else
        (0#32, 7#32)
    else
      if r.val < 3 then
        (0#32, 0#32)
      else
        (1#32, 6#32)
  else
    if r.val < 6 then
      if r.val < 5 then
        (1#32, 7#32)
      else
        (1#32, 0#32)
    else
      if r.val < 7 then
        (2#32, 6#32)
      else
        if r.val < 8 then
          (2#32, 7#32)
        else
          (2#32, 0#32)
def k0_off15 (k0_t7 : Fin k0_t7_loop.trips) : Fin 5 → Nat :=
  let c0_i32_18 : BitVec 32 := 0#32
  let c1_i32_20 : BitVec 32 := 1#32
  let arg11 : BitVec 32 := Scf.iv c0_i32_18 c1_i32_20 k0_t7
  let c4_i32_738 : BitVec 32 := 4#32
  let v747 : BitVec 32 := Scalar.muli arg11 c4_i32_738
  let c3_i32_739 : BitVec 32 := 3#32
  let v748 : BitVec 32 := Scalar.addi v747 c3_i32_739
  let v749 : Index := Scalar.indexCast v748
  let c0_740 : Index := 0#32
  let c0_741 : Index := 0#32
  let c0_742 : Index := 0#32
  let c0_743 : Index := 0#32
  ![v749.toNat, 0, 0, 0, 0]
def k0_off16 (c0_i32_107 : BitVec 32) (c0_i32_110 : BitVec 32) : Fin 5 → Nat :=
  let c2_i32 : BitVec 32 := 2#32
  let c0_i32_93 : BitVec 32 := 0#32
  let c0_i32_95 : BitVec 32 := 0#32
  let v78 : BitVec 1 := Scalar.cmpi .sgt c0_i32_93 c0_i32_95
  let v79 : BitVec 32 := Scalar.extui v78
  let c0_i32_96 : BitVec 32 := 0#32
  let v80 : BitVec 1 := Scalar.cmpi .slt c0_i32_93 c0_i32_96
  let v81 : BitVec 32 := Scalar.extui v80
  let v82 : BitVec 32 := Scalar.subi v79 v81
  let c1_i32_94 : BitVec 32 := 1#32
  let c0_i32_97 : BitVec 32 := 0#32
  let v83 : BitVec 1 := Scalar.cmpi .sgt c1_i32_94 c0_i32_97
  let v84 : BitVec 32 := Scalar.extui v83
  let c0_i32_98 : BitVec 32 := 0#32
  let v85 : BitVec 1 := Scalar.cmpi .slt c1_i32_94 c0_i32_98
  let v86 : BitVec 32 := Scalar.extui v85
  let v87 : BitVec 32 := Scalar.subi v84 v86
  let v88 : BitVec 1 := Scalar.cmpi .ne v82 v87
  let v89 : BitVec 32 := Scalar.remsi c0_i32_93 c1_i32_94
  let c0_i32_99 : BitVec 32 := 0#32
  let v90 : BitVec 1 := Scalar.cmpi .ne v89 c0_i32_99
  let v91 : BitVec 1 := Scalar.andi v88 v90
  let v77 : BitVec 32 := Scalar.divsi c0_i32_93 c1_i32_94
  let c1_i32_100 : BitVec 32 := 1#32
  let v92 : BitVec 32 := Scalar.subi v77 c1_i32_100
  let v93 : BitVec 32 := Scalar.select v91 v92 v77
  let v104 : BitVec 32 := Scalar.muli c2_i32 v93
  let v105 : BitVec 32 := Scalar.addi v104 c0_i32_107
  let c0_i32_108 : BitVec 32 := 0#32
  let v106 : BitVec 32 := Scalar.subi v105 c0_i32_108
  let c4_i32_112 : BitVec 32 := 4#32
  let v110 : BitVec 32 := Scalar.muli v106 c4_i32_112
  let c2_i32_109 : BitVec 32 := 2#32
  let c1_i32_101 : BitVec 32 := 1#32
  let c0_i32_102 : BitVec 32 := 0#32
  let v94 : BitVec 1 := Scalar.cmpi .eq c1_i32_101 c0_i32_102
  let c1_i32_103 : BitVec 32 := 1#32
  let v95 : BitVec 32 := Scalar.select v94 c1_i32_103 c1_i32_101
  let v96 : BitVec 32 := Scalar.remsi c0_i32_93 v95
  let c0_i32_105 : BitVec 32 := 0#32
  let v98 : BitVec 1 := Scalar.cmpi .slt v96 c0_i32_105
  let c0_i32_106 : BitVec 32 := 0#32
  let v99 : BitVec 1 := Scalar.cmpi .slt v95 c0_i32_106
  let v100 : BitVec 1 := Scalar.xori v98 v99
  let c0_i32_104 : BitVec 32 := 0#32
  let v97 : BitVec 1 := Scalar.cmpi .ne v96 c0_i32_104
  let v101 : BitVec 1 := Scalar.andi v100 v97
  let v102 : BitVec 32 := Scalar.addi v96 v95
  let v103 : BitVec 32 := Scalar.select v101 v102 v96
  let v107 : BitVec 32 := Scalar.muli c2_i32_109 v103
  let v108 : BitVec 32 := Scalar.addi v107 c0_i32_110
  let c0_i32_111 : BitVec 32 := 0#32
  let v109 : BitVec 32 := Scalar.subi v108 c0_i32_111
  let v111 : BitVec 32 := Scalar.addi v110 v109
  let v112 : Index := Scalar.indexCast v111
  let c0_113 : Index := 0#32
  let c0_114 : Index := 0#32
  let c0_115 : Index := 0#32
  let c0_116 : Index := 0#32
  ![v112.toNat, 0, 0, 0, 0]
def k0_off17 : Fin 5 → Nat :=
  let c0_i32_93 : BitVec 32 := 0#32
  let c0_i32_95 : BitVec 32 := 0#32
  let v78 : BitVec 1 := Scalar.cmpi .sgt c0_i32_93 c0_i32_95
  let v79 : BitVec 32 := Scalar.extui v78
  let c0_i32_96 : BitVec 32 := 0#32
  let v80 : BitVec 1 := Scalar.cmpi .slt c0_i32_93 c0_i32_96
  let v81 : BitVec 32 := Scalar.extui v80
  let v82 : BitVec 32 := Scalar.subi v79 v81
  let c1_i32_94 : BitVec 32 := 1#32
  let c0_i32_97 : BitVec 32 := 0#32
  let v83 : BitVec 1 := Scalar.cmpi .sgt c1_i32_94 c0_i32_97
  let v84 : BitVec 32 := Scalar.extui v83
  let c0_i32_98 : BitVec 32 := 0#32
  let v85 : BitVec 1 := Scalar.cmpi .slt c1_i32_94 c0_i32_98
  let v86 : BitVec 32 := Scalar.extui v85
  let v87 : BitVec 32 := Scalar.subi v84 v86
  let v88 : BitVec 1 := Scalar.cmpi .ne v82 v87
  let v89 : BitVec 32 := Scalar.remsi c0_i32_93 c1_i32_94
  let c0_i32_99 : BitVec 32 := 0#32
  let v90 : BitVec 1 := Scalar.cmpi .ne v89 c0_i32_99
  let v91 : BitVec 1 := Scalar.andi v88 v90
  let v77 : BitVec 32 := Scalar.divsi c0_i32_93 c1_i32_94
  let c1_i32_100 : BitVec 32 := 1#32
  let v92 : BitVec 32 := Scalar.subi v77 c1_i32_100
  let v93 : BitVec 32 := Scalar.select v91 v92 v77
  let c2_i32_224 : BitVec 32 := 2#32
  let v223 : BitVec 32 := Scalar.muli v93 c2_i32_224
  let c1_i32_101 : BitVec 32 := 1#32
  let c0_i32_102 : BitVec 32 := 0#32
  let v94 : BitVec 1 := Scalar.cmpi .eq c1_i32_101 c0_i32_102
  let c1_i32_103 : BitVec 32 := 1#32
  let v95 : BitVec 32 := Scalar.select v94 c1_i32_103 c1_i32_101
  let v96 : BitVec 32 := Scalar.remsi c0_i32_93 v95
  let c0_i32_105 : BitVec 32 := 0#32
  let v98 : BitVec 1 := Scalar.cmpi .slt v96 c0_i32_105
  let c0_i32_106 : BitVec 32 := 0#32
  let v99 : BitVec 1 := Scalar.cmpi .slt v95 c0_i32_106
  let v100 : BitVec 1 := Scalar.xori v98 v99
  let c0_i32_104 : BitVec 32 := 0#32
  let v97 : BitVec 1 := Scalar.cmpi .ne v96 c0_i32_104
  let v101 : BitVec 1 := Scalar.andi v100 v97
  let v102 : BitVec 32 := Scalar.addi v96 v95
  let v103 : BitVec 32 := Scalar.select v101 v102 v96
  let v224 : BitVec 32 := Scalar.addi v223 v103
  let v225 : Index := Scalar.indexCast v224
  let c0_225 : Index := 0#32
  let c0_226 : Index := 0#32
  let c0_227 : Index := 0#32
  let c0_228 : Index := 0#32
  ![v225.toNat, 0, 0, 0, 0]
def k0_off18 (c8_i32 : BitVec 32) (c0_i32_232 : BitVec 32) : Fin 5 → Nat :=
  let c2_i32_231 : BitVec 32 := 2#32
  let c0_i32_230 : BitVec 32 := 0#32
  let v229 : BitVec 32 := Scalar.muli c2_i32_231 c0_i32_230
  let v230 : BitVec 32 := Scalar.addi v229 c0_i32_232
  let c0_i32_233 : BitVec 32 := 0#32
  let v231 : BitVec 32 := Scalar.subi v230 c0_i32_233
  let v232 : BitVec 32 := Scalar.addi c8_i32 v231
  let v233 : Index := Scalar.indexCast v232
  let c0_234 : Index := 0#32
  let c0_235 : Index := 0#32
  let c0_236 : Index := 0#32
  let c0_237 : Index := 0#32
  ![v233.toNat, 0, 0, 0, 0]
def k0_off19 (c0_i32_302 : BitVec 32) : Fin 5 → Nat :=
  let c0_i32_304 : BitVec 32 := 0#32
  let c2_i32_301 : BitVec 32 := 2#32
  let c0_i32_230 : BitVec 32 := 0#32
  let v294 : BitVec 32 := Scalar.muli c2_i32_301 c0_i32_230
  let v295 : BitVec 32 := Scalar.addi v294 c0_i32_302
  let c0_i32_303 : BitVec 32 := 0#32
  let v296 : BitVec 32 := Scalar.subi v295 c0_i32_303
  let v297 : BitVec 32 := Scalar.addi c0_i32_304 v296
  let v298 : Index := Scalar.indexCast v297
  let c0_305 : Index := 0#32
  let c1_306 : Index := 1#32
  let c0_307 : Index := 0#32
  let c0_308 : Index := 0#32
  ![v298.toNat, 0, 1, 0, 0]
def k0_off20 : Fin 5 → Nat :=
  let c2_i32_338 : BitVec 32 := 2#32
  let c0_i32_230 : BitVec 32 := 0#32
  let v330 : BitVec 32 := Scalar.addi c2_i32_338 c0_i32_230
  let v331 : Index := Scalar.indexCast v330
  let c0_339 : Index := 0#32
  let c0_340 : Index := 0#32
  let c0_341 : Index := 0#32
  let c0_342 : Index := 0#32
  ![v331.toNat, 0, 0, 0, 0]
def k0_off21 (c0_i32_346 : BitVec 32) (c2_i32_349 : BitVec 32) : Fin 5 → Nat :=
  let c2_i32_345 : BitVec 32 := 2#32
  let c0_i32_344 : BitVec 32 := 0#32
  let v335 : BitVec 32 := Scalar.muli c2_i32_345 c0_i32_344
  let v336 : BitVec 32 := Scalar.addi v335 c0_i32_346
  let c0_i32_347 : BitVec 32 := 0#32
  let v337 : BitVec 32 := Scalar.subi v336 c0_i32_347
  let c4_i32_348 : BitVec 32 := 4#32
  let v338 : BitVec 32 := Scalar.muli v337 c4_i32_348
  let v339 : BitVec 32 := Scalar.addi v338 c2_i32_349
  let v340 : Index := Scalar.indexCast v339
  let c0_350 : Index := 0#32
  let c0_351 : Index := 0#32
  let c0_352 : Index := 0#32
  let c0_353 : Index := 0#32
  ![v340.toNat, 0, 0, 0, 0]
def k0_off21_at (r : Fin 9) : BitVec 32 × BitVec 32 :=
  if r.val < 4 then
    if r.val < 2 then
      if r.val < 1 then
        (0#32, 2#32)
      else
        (0#32, 3#32)
    else
      if r.val < 3 then
        (0#32, 0#32)
      else
        (1#32, 2#32)
  else
    if r.val < 6 then
      if r.val < 5 then
        (1#32, 3#32)
      else
        (1#32, 0#32)
    else
      if r.val < 7 then
        (2#32, 2#32)
      else
        if r.val < 8 then
          (2#32, 3#32)
        else
          (2#32, 0#32)
def k0_off22 : Fin 5 → Nat :=
  let c0_i32_344 : BitVec 32 := 0#32
  let c2_i32_445 : BitVec 32 := 2#32
  let v436 : BitVec 32 := Scalar.muli c0_i32_344 c2_i32_445
  let c1_i32_446 : BitVec 32 := 1#32
  let v437 : BitVec 32 := Scalar.addi v436 c1_i32_446
  let v438 : Index := Scalar.indexCast v437
  let c0_447 : Index := 0#32
  let c0_448 : Index := 0#32
  let c0_449 : Index := 0#32
  let c0_450 : Index := 0#32
  ![v438.toNat, 0, 0, 0, 0]
abbrev stage0_0 : Fin 1 → Memref sig .tc .vmem S64x4x14x432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S27x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x14x14 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4x3x224x224 : Shape := ⟨4, ![4, 3, 224, 224]⟩
abbrev S32x3x3x3 : Shape := ⟨4, ![32, 3, 3, 3]⟩
abbrev S64x32x3x3 : Shape := ⟨4, ![64, 32, 3, 3]⟩
abbrev S128x64x3x3 : Shape := ⟨4, ![128, 64, 3, 3]⟩
abbrev S128x128x3x3 : Shape := ⟨4, ![128, 128, 3, 3]⟩
abbrev S512x128 : Shape := ⟨2, ![512, 128]⟩
abbrev S_ : Shape := ⟨0, ![]⟩
abbrev S4x3x225x225 : Shape := ⟨4, ![4, 3, 225, 225]⟩
abbrev S4x112x112x32 : Shape := ⟨4, ![4, 112, 112, 32]⟩
abbrev S4x3x112x112 : Shape := ⟨4, ![4, 3, 112, 112]⟩
abbrev S32x3x1x1 : Shape := ⟨4, ![32, 3, 1, 1]⟩
abbrev S32x3 : Shape := ⟨2, ![32, 3]⟩
abbrev S4x32x112x112 : Shape := ⟨4, ![4, 32, 112, 112]⟩
abbrev S4x32x113x113 : Shape := ⟨4, ![4, 32, 113, 113]⟩
abbrev S4x56x56x64 : Shape := ⟨4, ![4, 56, 56, 64]⟩
abbrev S4x32x56x56 : Shape := ⟨4, ![4, 32, 56, 56]⟩
abbrev S64x32x1x1 : Shape := ⟨4, ![64, 32, 1, 1]⟩
abbrev S64x32 : Shape := ⟨2, ![64, 32]⟩
abbrev S4x64x56x56 : Shape := ⟨4, ![4, 64, 56, 56]⟩
abbrev S4x64x57x57 : Shape := ⟨4, ![4, 64, 57, 57]⟩
abbrev S4x28x28x128 : Shape := ⟨4, ![4, 28, 28, 128]⟩
abbrev S4x64x28x28 : Shape := ⟨4, ![4, 64, 28, 28]⟩
abbrev S128x64x1x1 : Shape := ⟨4, ![128, 64, 1, 1]⟩
abbrev S128x64 : Shape := ⟨2, ![128, 64]⟩
abbrev S4x128x28x28 : Shape := ⟨4, ![4, 128, 28, 28]⟩
abbrev S4x128x29x29 : Shape := ⟨4, ![4, 128, 29, 29]⟩
abbrev S4x14x14x128 : Shape := ⟨4, ![4, 14, 14, 128]⟩
abbrev S4x128x14x14 : Shape := ⟨4, ![4, 128, 14, 14]⟩
abbrev S128x128x1x1 : Shape := ⟨4, ![128, 128, 1, 1]⟩
abbrev S128x128 : Shape := ⟨2, ![128, 128]⟩
abbrev S4x14x14 : Shape := ⟨3, ![4, 14, 14]⟩
abbrev S4x1x14x14 : Shape := ⟨4, ![4, 1, 14, 14]⟩
abbrev S784x128 : Shape := ⟨2, ![784, 128]⟩
abbrev S784x1x128 : Shape := ⟨3, ![784, 1, 128]⟩
abbrev S1x512x128 : Shape := ⟨3, ![1, 512, 128]⟩
abbrev S784x512x128 : Shape := ⟨3, ![784, 512, 128]⟩
abbrev S784x512 : Shape := ⟨2, ![784, 512]⟩
abbrev S784x1 : Shape := ⟨2, ![784, 1]⟩
abbrev S784 : Shape := ⟨1, ![784]⟩
abbrev S1 : Shape := ⟨1, ![1]⟩
abbrev S1x1 : Shape := ⟨2, ![1, 1]⟩
abbrev S4x14x14x1 : Shape := ⟨4, ![4, 14, 14, 1]⟩

abbrev nBuf : Space → Nat
  | .hbm => 278
  | .vmem => 0
  | .smem => 0
  | _ => 0

abbrev hbmTy0_0 (i : Nat) : BufTy := match i % 128 with
  | 0 => ⟨S4x3x224x224, .f32⟩
  | 1 => ⟨S32x3x3x3, .f32⟩
  | 2 => ⟨S64x32x3x3, .f32⟩
  | 3 => ⟨S128x64x3x3, .f32⟩
  | 4 => ⟨S128x128x3x3, .f32⟩
  | 5 => ⟨S512x128, .f32⟩
  | 6 => ⟨S_, .i32⟩
  | 7 => ⟨S_, .f32⟩
  | 8 => ⟨S4x3x225x225, .f32⟩
  | 9 => ⟨S_, .f32⟩
  | 10 => ⟨S4x112x112x32, .f32⟩
  | 11 => ⟨S4x3x112x112, .f32⟩
  | 12 => ⟨S32x3x1x1, .f32⟩
  | 13 => ⟨S32x3, .f32⟩
  | 14 => ⟨S4x112x112x32, .f32⟩
  | 15 => ⟨S4x112x112x32, .f32⟩
  | 16 => ⟨S4x3x112x112, .f32⟩
  | 17 => ⟨S32x3x1x1, .f32⟩
  | 18 => ⟨S32x3, .f32⟩
  | 19 => ⟨S4x112x112x32, .f32⟩
  | 20 => ⟨S4x112x112x32, .f32⟩
  | 21 => ⟨S4x3x112x112, .f32⟩
  | 22 => ⟨S32x3x1x1, .f32⟩
  | 23 => ⟨S32x3, .f32⟩
  | 24 => ⟨S4x112x112x32, .f32⟩
  | 25 => ⟨S4x112x112x32, .f32⟩
  | 26 => ⟨S4x3x112x112, .f32⟩
  | 27 => ⟨S32x3x1x1, .f32⟩
  | 28 => ⟨S32x3, .f32⟩
  | 29 => ⟨S4x112x112x32, .f32⟩
  | 30 => ⟨S4x112x112x32, .f32⟩
  | 31 => ⟨S4x3x112x112, .f32⟩
  | 32 => ⟨S32x3x1x1, .f32⟩
  | 33 => ⟨S32x3, .f32⟩
  | 34 => ⟨S4x112x112x32, .f32⟩
  | 35 => ⟨S4x112x112x32, .f32⟩
  | 36 => ⟨S4x3x112x112, .f32⟩
  | 37 => ⟨S32x3x1x1, .f32⟩
  | 38 => ⟨S32x3, .f32⟩
  | 39 => ⟨S4x112x112x32, .f32⟩
  | 40 => ⟨S4x112x112x32, .f32⟩
  | 41 => ⟨S4x3x112x112, .f32⟩
  | 42 => ⟨S32x3x1x1, .f32⟩
  | 43 => ⟨S32x3, .f32⟩
  | 44 => ⟨S4x112x112x32, .f32⟩
  | 45 => ⟨S4x112x112x32, .f32⟩
  | 46 => ⟨S4x3x112x112, .f32⟩
  | 47 => ⟨S32x3x1x1, .f32⟩
  | 48 => ⟨S32x3, .f32⟩
  | 49 => ⟨S4x112x112x32, .f32⟩
  | 50 => ⟨S4x112x112x32, .f32⟩
  | 51 => ⟨S4x3x112x112, .f32⟩
  | 52 => ⟨S32x3x1x1, .f32⟩
  | 53 => ⟨S32x3, .f32⟩
  | 54 => ⟨S4x112x112x32, .f32⟩
  | 55 => ⟨S4x112x112x32, .f32⟩
  | 56 => ⟨S4x32x112x112, .f32⟩
  | 57 => ⟨S_, .f32⟩
  | 58 => ⟨S4x32x112x112, .f32⟩
  | 59 => ⟨S4x32x112x112, .f32⟩
  | 60 => ⟨S_, .i32⟩
  | 61 => ⟨S_, .f32⟩
  | 62 => ⟨S4x32x113x113, .f32⟩
  | 63 => ⟨S_, .f32⟩
  | 64 => ⟨S4x56x56x64, .f32⟩
  | 65 => ⟨S4x32x56x56, .f32⟩
  | 66 => ⟨S64x32x1x1, .f32⟩
  | 67 => ⟨S64x32, .f32⟩
  | 68 => ⟨S4x56x56x64, .f32⟩
  | 69 => ⟨S4x56x56x64, .f32⟩
  | 70 => ⟨S4x32x56x56, .f32⟩
  | 71 => ⟨S64x32x1x1, .f32⟩
  | 72 => ⟨S64x32, .f32⟩
  | 73 => ⟨S4x56x56x64, .f32⟩
  | 74 => ⟨S4x56x56x64, .f32⟩
  | 75 => ⟨S4x32x56x56, .f32⟩
  | 76 => ⟨S64x32x1x1, .f32⟩
  | 77 => ⟨S64x32, .f32⟩
  | 78 => ⟨S4x56x56x64, .f32⟩
  | 79 => ⟨S4x56x56x64, .f32⟩
  | 80 => ⟨S4x32x56x56, .f32⟩
  | 81 => ⟨S64x32x1x1, .f32⟩
  | 82 => ⟨S64x32, .f32⟩
  | 83 => ⟨S4x56x56x64, .f32⟩
  | 84 => ⟨S4x56x56x64, .f32⟩
  | 85 => ⟨S4x32x56x56, .f32⟩
  | 86 => ⟨S64x32x1x1, .f32⟩
  | 87 => ⟨S64x32, .f32⟩
  | 88 => ⟨S4x56x56x64, .f32⟩
  | 89 => ⟨S4x56x56x64, .f32⟩
  | 90 => ⟨S4x32x56x56, .f32⟩
  | 91 => ⟨S64x32x1x1, .f32⟩
  | 92 => ⟨S64x32, .f32⟩
  | 93 => ⟨S4x56x56x64, .f32⟩
  | 94 => ⟨S4x56x56x64, .f32⟩
  | 95 => ⟨S4x32x56x56, .f32⟩
  | 96 => ⟨S64x32x1x1, .f32⟩
  | 97 => ⟨S64x32, .f32⟩
  | 98 => ⟨S4x56x56x64, .f32⟩
  | 99 => ⟨S4x56x56x64, .f32⟩
  | 100 => ⟨S4x32x56x56, .f32⟩
  | 101 => ⟨S64x32x1x1, .f32⟩
  | 102 => ⟨S64x32, .f32⟩
  | 103 => ⟨S4x56x56x64, .f32⟩
  | 104 => ⟨S4x56x56x64, .f32⟩
  | 105 => ⟨S4x32x56x56, .f32⟩
  | 106 => ⟨S64x32x1x1, .f32⟩
  | 107 => ⟨S64x32, .f32⟩
  | 108 => ⟨S4x56x56x64, .f32⟩
  | 109 => ⟨S4x56x56x64, .f32⟩
  | 110 => ⟨S4x64x56x56, .f32⟩
  | 111 => ⟨S_, .f32⟩
  | 112 => ⟨S4x64x56x56, .f32⟩
  | 113 => ⟨S4x64x56x56, .f32⟩
  | 114 => ⟨S_, .i32⟩
  | 115 => ⟨S_, .f32⟩
  | 116 => ⟨S4x64x57x57, .f32⟩
  | 117 => ⟨S_, .f32⟩
  | 118 => ⟨S4x28x28x128, .f32⟩
  | 119 => ⟨S4x64x28x28, .f32⟩
  | 120 => ⟨S128x64x1x1, .f32⟩
  | 121 => ⟨S128x64, .f32⟩
  | 122 => ⟨S4x28x28x128, .f32⟩
  | 123 => ⟨S4x28x28x128, .f32⟩
  | 124 => ⟨S4x64x28x28, .f32⟩
  | 125 => ⟨S128x64x1x1, .f32⟩
  | 126 => ⟨S128x64, .f32⟩
  | 127 => ⟨S4x28x28x128, .f32⟩
  | _ => ⟨S4x3x224x224, .f32⟩

abbrev hbmTy0_1 (i : Nat) : BufTy := match i % 128 with
  | 0 => ⟨S4x28x28x128, .f32⟩
  | 1 => ⟨S4x64x28x28, .f32⟩
  | 2 => ⟨S128x64x1x1, .f32⟩
  | 3 => ⟨S128x64, .f32⟩
  | 4 => ⟨S4x28x28x128, .f32⟩
  | 5 => ⟨S4x28x28x128, .f32⟩
  | 6 => ⟨S4x64x28x28, .f32⟩
  | 7 => ⟨S128x64x1x1, .f32⟩
  | 8 => ⟨S128x64, .f32⟩
  | 9 => ⟨S4x28x28x128, .f32⟩
  | 10 => ⟨S4x28x28x128, .f32⟩
  | 11 => ⟨S4x64x28x28, .f32⟩
  | 12 => ⟨S128x64x1x1, .f32⟩
  | 13 => ⟨S128x64, .f32⟩
  | 14 => ⟨S4x28x28x128, .f32⟩
  | 15 => ⟨S4x28x28x128, .f32⟩
  | 16 => ⟨S4x64x28x28, .f32⟩
  | 17 => ⟨S128x64x1x1, .f32⟩
  | 18 => ⟨S128x64, .f32⟩
  | 19 => ⟨S4x28x28x128, .f32⟩
  | 20 => ⟨S4x28x28x128, .f32⟩
  | 21 => ⟨S4x64x28x28, .f32⟩
  | 22 => ⟨S128x64x1x1, .f32⟩
  | 23 => ⟨S128x64, .f32⟩
  | 24 => ⟨S4x28x28x128, .f32⟩
  | 25 => ⟨S4x28x28x128, .f32⟩
  | 26 => ⟨S4x64x28x28, .f32⟩
  | 27 => ⟨S128x64x1x1, .f32⟩
  | 28 => ⟨S128x64, .f32⟩
  | 29 => ⟨S4x28x28x128, .f32⟩
  | 30 => ⟨S4x28x28x128, .f32⟩
  | 31 => ⟨S4x64x28x28, .f32⟩
  | 32 => ⟨S128x64x1x1, .f32⟩
  | 33 => ⟨S128x64, .f32⟩
  | 34 => ⟨S4x28x28x128, .f32⟩
  | 35 => ⟨S4x28x28x128, .f32⟩
  | 36 => ⟨S4x128x28x28, .f32⟩
  | 37 => ⟨S_, .f32⟩
  | 38 => ⟨S4x128x28x28, .f32⟩
  | 39 => ⟨S4x128x28x28, .f32⟩
  | 40 => ⟨S_, .i32⟩
  | 41 => ⟨S_, .f32⟩
  | 42 => ⟨S4x128x29x29, .f32⟩
  | 43 => ⟨S_, .f32⟩
  | 44 => ⟨S4x14x14x128, .f32⟩
  | 45 => ⟨S4x128x14x14, .f32⟩
  | 46 => ⟨S128x128x1x1, .f32⟩
  | 47 => ⟨S128x128, .f32⟩
  | 48 => ⟨S4x14x14x128, .f32⟩
  | 49 => ⟨S4x14x14x128, .f32⟩
  | 50 => ⟨S4x128x14x14, .f32⟩
  | 51 => ⟨S128x128x1x1, .f32⟩
  | 52 => ⟨S128x128, .f32⟩
  | 53 => ⟨S4x14x14x128, .f32⟩
  | 54 => ⟨S4x14x14x128, .f32⟩
  | 55 => ⟨S4x128x14x14, .f32⟩
  | 56 => ⟨S128x128x1x1, .f32⟩
  | 57 => ⟨S128x128, .f32⟩
  | 58 => ⟨S4x14x14x128, .f32⟩
  | 59 => ⟨S4x14x14x128, .f32⟩
  | 60 => ⟨S4x128x14x14, .f32⟩
  | 61 => ⟨S128x128x1x1, .f32⟩
  | 62 => ⟨S128x128, .f32⟩
  | 63 => ⟨S4x14x14x128, .f32⟩
  | 64 => ⟨S4x14x14x128, .f32⟩
  | 65 => ⟨S4x128x14x14, .f32⟩
  | 66 => ⟨S128x128x1x1, .f32⟩
  | 67 => ⟨S128x128, .f32⟩
  | 68 => ⟨S4x14x14x128, .f32⟩
  | 69 => ⟨S4x14x14x128, .f32⟩
  | 70 => ⟨S4x128x14x14, .f32⟩
  | 71 => ⟨S128x128x1x1, .f32⟩
  | 72 => ⟨S128x128, .f32⟩
  | 73 => ⟨S4x14x14x128, .f32⟩
  | 74 => ⟨S4x14x14x128, .f32⟩
  | 75 => ⟨S4x128x14x14, .f32⟩
  | 76 => ⟨S128x128x1x1, .f32⟩
  | 77 => ⟨S128x128, .f32⟩
  | 78 => ⟨S4x14x14x128, .f32⟩
  | 79 => ⟨S4x14x14x128, .f32⟩
  | 80 => ⟨S4x128x14x14, .f32⟩
  | 81 => ⟨S128x128x1x1, .f32⟩
  | 82 => ⟨S128x128, .f32⟩
  | 83 => ⟨S4x14x14x128, .f32⟩
  | 84 => ⟨S4x14x14x128, .f32⟩
  | 85 => ⟨S4x128x14x14, .f32⟩
  | 86 => ⟨S128x128x1x1, .f32⟩
  | 87 => ⟨S128x128, .f32⟩
  | 88 => ⟨S4x14x14x128, .f32⟩
  | 89 => ⟨S4x14x14x128, .f32⟩
  | 90 => ⟨S4x128x14x14, .f32⟩
  | 91 => ⟨S_, .f32⟩
  | 92 => ⟨S4x128x14x14, .f32⟩
  | 93 => ⟨S4x128x14x14, .f32⟩
  | 94 => ⟨S4x128x14x14, .f32⟩
  | 95 => ⟨S_, .f32⟩
  | 96 => ⟨S4x14x14, .f32⟩
  | 97 => ⟨S4x1x14x14, .f32⟩
  | 98 => ⟨S4x1x14x14, .f32⟩
  | 99 => ⟨S_, .f32⟩
  | 100 => ⟨S4x1x14x14, .f32⟩
  | 101 => ⟨S4x1x14x14, .f32⟩
  | 102 => ⟨S4x128x14x14, .f32⟩
  | 103 => ⟨S4x128x14x14, .f32⟩
  | 104 => ⟨S4x14x14x128, .f32⟩
  | 105 => ⟨S784x128, .f32⟩
  | 106 => ⟨S784x1x128, .f32⟩
  | 107 => ⟨S1x512x128, .f32⟩
  | 108 => ⟨S784x512x128, .f32⟩
  | 109 => ⟨S784x512x128, .f32⟩
  | 110 => ⟨S784x512x128, .f32⟩
  | 111 => ⟨S784x512x128, .f32⟩
  | 112 => ⟨S_, .f32⟩
  | 113 => ⟨S784x512, .f32⟩
  | 114 => ⟨S_, .f32⟩
  | 115 => ⟨S784x512, .f32⟩
  | 116 => ⟨S784x512, .f32⟩
  | 117 => ⟨S784x512, .f32⟩
  | 118 => ⟨S784x1, .f32⟩
  | 119 => ⟨S784x1, .i32⟩
  | 120 => ⟨S784, .i32⟩
  | 121 => ⟨S_, .i32⟩
  | 122 => ⟨S784, .i32⟩
  | 123 => ⟨S784, .i1⟩
  | 124 => ⟨S_, .i32⟩
  | 125 => ⟨S784, .i32⟩
  | 126 => ⟨S784, .i32⟩
  | 127 => ⟨S784, .i32⟩
  | _ => ⟨S4x3x224x224, .f32⟩

abbrev hbmTy0_2 (i : Nat) : BufTy := match i % 128 with
  | 0 => ⟨S784x1, .i32⟩
  | 1 => ⟨S1, .i32⟩
  | 2 => ⟨S_, .i32⟩
  | 3 => ⟨S784x1, .i32⟩
  | 4 => ⟨S784x1, .i1⟩
  | 5 => ⟨S1x1, .i32⟩
  | 6 => ⟨S784x1, .i32⟩
  | 7 => ⟨S784x1, .i1⟩
  | 8 => ⟨S784x1, .i1⟩
  | 9 => ⟨S_, .i1⟩
  | 10 => ⟨S784, .i1⟩
  | 11 => ⟨S784x128, .f32⟩
  | 12 => ⟨S784x128, .i1⟩
  | 13 => ⟨S_, .f32⟩
  | 14 => ⟨S784x128, .f32⟩
  | 15 => ⟨S784x128, .f32⟩
  | 16 => ⟨S784x128, .f32⟩
  | 17 => ⟨S784x128, .f32⟩
  | 18 => ⟨S784x128, .f32⟩
  | 19 => ⟨S_, .f32⟩
  | 20 => ⟨S784, .f32⟩
  | 21 => ⟨S4x14x14x1, .f32⟩
  | _ => ⟨S4x3x224x224, .f32⟩

abbrev hbmTy (i : Nat) : BufTy := match i / 128 with
  | 0 => hbmTy0_0 i
  | 1 => hbmTy0_1 i
  | 2 => hbmTy0_2 i
  | _ => ⟨S4x3x224x224, .f32⟩

abbrev bufTy : (tb : Table) → Fin (tcTables nBuf tb) → BufTy
  | .hbm, ⟨i, _⟩ => hbmTy i
  | _, _ => ⟨S4x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_call1_cst : Ref sig .tc := ⟨.hbm, 57, rfl⟩
abbrev main_call1_v0 : Ref sig .tc := ⟨.hbm, 58, rfl⟩
abbrev main_v48 : Ref sig .tc := ⟨.hbm, 59, rfl⟩
abbrev main_c_0 : Ref sig .tc := ⟨.hbm, 60, rfl⟩
abbrev main_call2_v0 : Ref sig .tc := ⟨.hbm, 61, rfl⟩
abbrev main_v49 : Ref sig .tc := ⟨.hbm, 62, rfl⟩
abbrev main_cst_1 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_call3_cst : Ref sig .tc := ⟨.hbm, 111, rfl⟩
abbrev main_call3_v0 : Ref sig .tc := ⟨.hbm, 112, rfl⟩
abbrev main_v97 : Ref sig .tc := ⟨.hbm, 113, rfl⟩
abbrev main_c_2 : Ref sig .tc := ⟨.hbm, 114, rfl⟩
abbrev main_call4_v0 : Ref sig .tc := ⟨.hbm, 115, rfl⟩
abbrev main_v98 : Ref sig .tc := ⟨.hbm, 116, rfl⟩
abbrev main_cst_3 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_call5_cst : Ref sig .tc := ⟨.hbm, 165, rfl⟩
abbrev main_call5_v0 : Ref sig .tc := ⟨.hbm, 166, rfl⟩
abbrev main_v146 : Ref sig .tc := ⟨.hbm, 167, rfl⟩
abbrev main_c_4 : Ref sig .tc := ⟨.hbm, 168, rfl⟩
abbrev main_call6_v0 : Ref sig .tc := ⟨.hbm, 169, rfl⟩
abbrev main_v147 : Ref sig .tc := ⟨.hbm, 170, rfl⟩
abbrev main_cst_5 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_call7_cst : Ref sig .tc := ⟨.hbm, 219, rfl⟩
abbrev main_call7_v0 : Ref sig .tc := ⟨.hbm, 220, rfl⟩
abbrev main_v195 : Ref sig .tc := ⟨.hbm, 221, rfl⟩
abbrev main_call8_v0 : Ref sig .tc := ⟨.hbm, 222, rfl⟩
abbrev main_call8_cst : Ref sig .tc := ⟨.hbm, 223, rfl⟩
abbrev main_call8_v1 : Ref sig .tc := ⟨.hbm, 224, rfl⟩
abbrev main_call8_v2 : Ref sig .tc := ⟨.hbm, 225, rfl⟩
abbrev main_v196 : Ref sig .tc := ⟨.hbm, 226, rfl⟩
abbrev main_cst_6 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_cst_7 : Ref sig .tc := ⟨.hbm, 240, rfl⟩
abbrev main_v209 : Ref sig .tc := ⟨.hbm, 241, rfl⟩
abbrev main_cst_8 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_values : Ref sig .tc := ⟨.hbm, 246, rfl⟩
abbrev main_indices : Ref sig .tc := ⟨.hbm, 247, rfl⟩
abbrev main_v213 : Ref sig .tc := ⟨.hbm, 248, rfl⟩
abbrev main_call9_c : Ref sig .tc := ⟨.hbm, 249, rfl⟩
abbrev main_call9_v0 : Ref sig .tc := ⟨.hbm, 250, rfl⟩
abbrev main_call9_v1 : Ref sig .tc := ⟨.hbm, 251, rfl⟩
abbrev main_call9_c_0 : Ref sig .tc := ⟨.hbm, 252, rfl⟩
abbrev main_call9_v2 : Ref sig .tc := ⟨.hbm, 253, rfl⟩
abbrev main_call9_v3 : Ref sig .tc := ⟨.hbm, 254, rfl⟩
abbrev main_call9_v4 : Ref sig .tc := ⟨.hbm, 255, rfl⟩
abbrev main_call9_v5 : Ref sig .tc := ⟨.hbm, 256, rfl⟩
abbrev main_call9_c_1 : Ref sig .tc := ⟨.hbm, 257, rfl⟩
abbrev main_call9_c_2 : Ref sig .tc := ⟨.hbm, 258, rfl⟩
abbrev main_call9_v6 : Ref sig .tc := ⟨.hbm, 259, rfl⟩
abbrev main_call9_v7 : Ref sig .tc := ⟨.hbm, 260, rfl⟩
abbrev main_call9_v8 : Ref sig .tc := ⟨.hbm, 261, rfl⟩
abbrev main_call9_v9 : Ref sig .tc := ⟨.hbm, 262, rfl⟩
abbrev main_call9_v10 : Ref sig .tc := ⟨.hbm, 263, rfl⟩
abbrev main_call9_v11 : Ref sig .tc := ⟨.hbm, 264, rfl⟩
abbrev main_call9_c_3 : Ref sig .tc := ⟨.hbm, 265, rfl⟩
abbrev main_call9_v12 : Ref sig .tc := ⟨.hbm, 266, rfl⟩
abbrev main_call9_v13 : Ref sig .tc := ⟨.hbm, 267, rfl⟩
abbrev main_call9_v14 : Ref sig .tc := ⟨.hbm, 268, rfl⟩
abbrev main_call9_cst : Ref sig .tc := ⟨.hbm, 269, rfl⟩
abbrev main_call9_v15 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_cst_9 : Ref sig .tc := ⟨.hbm, 275, rfl⟩
abbrev main_v218 : Ref sig .tc := ⟨.hbm, 276, rfl⟩
abbrev main_v219 : Ref sig .tc := ⟨.hbm, 277, rfl⟩

abbrev nD : Nat := 1
abbrev τ : Topo := Topo.v7x

variable {F : FTy → Type} [FloatOps F]
-- ==== Proof.Body.lean ====
/-
  One run of the kernel body. The body is executed once over symbolic buffers, its seven counted loops each crossed by
  the loop's listed pieces; what is found is the list of pieces left in the result buffer, as a function of the
  operands' contents and of what the three scratch buffers held at entry.
-/
module

public import proofs.«01_k».proof.Proof.Gen.KernelIdeal.Loops
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- The pieces the body leaves in the result buffer, with the run that leaves them: the seven operands end as they
    were, the three scratch buffers at some contents. -/
def bodyRun (c : Dev nD) (M0 : Memref sig .tc .vmem S64x4x14x432 .f32) (h0 : M0.IsWhole) (M1 : Memref sig .tc .vmem S27x32 .f32) (h1 : M1.IsWhole) (M2 : Memref sig .tc .vmem S9x32x64 .f32) (h2 : M2.IsWhole) (M3 : Memref sig .tc .vmem S9x64x128 .f32) (h3 : M3.IsWhole) (M4 : Memref sig .tc .vmem S9x128x128 .f32) (h4 : M4.IsWhole) (M5 : Memref sig .tc .vmem S128x512 .f32) (h5 : M5.IsWhole) (M6 : Memref sig .tc .vmem S512x128 .f32) (h6 : M6.IsWhole) (M7 : Memref sig .tc .vmem S4x14x14 .f32) (h7 : M7.IsWhole) (M8 : Memref sig .tc .vmem S64x4x16x16x32 .f32) (h8 : M8.IsWhole) (M9 : Memref sig .tc .vmem S16x4x16x16x64 .f32) (h9 : M9.IsWhole) (M10 : Memref sig .tc .vmem S4x4x16x16x128 .f32) (h10 : M10.IsWhole)
    (f0 : BufTy.Contents (Elt F) M0.view.ty) (f1 : BufTy.Contents (Elt F) M1.view.ty) (f2 : BufTy.Contents (Elt F) M2.view.ty) (f3 : BufTy.Contents (Elt F) M3.view.ty) (f4 : BufTy.Contents (Elt F) M4.view.ty) (f5 : BufTy.Contents (Elt F) M5.view.ty) (f6 : BufTy.Contents (Elt F) M6.view.ty) (f8 : BufTy.Contents (Elt F) M8.view.ty) (f9 : BufTy.Contents (Elt F) M9.view.ty) (f10 : BufTy.Contents (Elt F) M10.view.ty) :
    { L : List (View.Piece (Elt F) S4x14x14 .f32) // ∀ (f7 : BufTy.Contents (Elt F) M7.view.ty) (E : Set ℕ) (K : PUnit → sProp 𝕄),
      iprop((M0.view.loc (c : Thread nD τ) ↦[M0.view.set]{fullShare} f0) ∗ (M1.view.loc (c : Thread nD τ) ↦[M1.view.set]{fullShare} f1) ∗ (M2.view.loc (c : Thread nD τ) ↦[M2.view.set]{fullShare} f2) ∗ (M3.view.loc (c : Thread nD τ) ↦[M3.view.set]{fullShare} f3) ∗ (M4.view.loc (c : Thread nD τ) ↦[M4.view.set]{fullShare} f4) ∗ (M5.view.loc (c : Thread nD τ) ↦[M5.view.set]{fullShare} f5) ∗ (M6.view.loc (c : Thread nD τ) ↦[M6.view.set]{fullShare} f6) ∗ (M7.view.loc (c : Thread nD τ) ↦[M7.view.set]{fullShare} f7) ∗ (M8.view.loc (c : Thread nD τ) ↦[M8.view.set]{fullShare} f8) ∗ (M9.view.loc (c : Thread nD τ) ↦[M9.view.set]{fullShare} f9) ∗ (M10.view.loc (c : Thread nD τ) ↦[M10.view.set]{fullShare} f10)
        ∗ (iprop((M0.view.loc (c : Thread nD τ) ↦[M0.view.set]{fullShare} f0) ∗ (M1.view.loc (c : Thread nD τ) ↦[M1.view.set]{fullShare} f1) ∗ (M2.view.loc (c : Thread nD τ) ↦[M2.view.set]{fullShare} f2) ∗ (M3.view.loc (c : Thread nD τ) ↦[M3.view.set]{fullShare} f3) ∗ (M4.view.loc (c : Thread nD τ) ↦[M4.view.set]{fullShare} f4) ∗ (M5.view.loc (c : Thread nD τ) ↦[M5.view.set]{fullShare} f5) ∗ (M6.view.loc (c : Thread nD τ) ↦[M6.view.set]{fullShare} f6) ∗ (M7.view.loc (c : Thread nD τ) ↦[M7.view.set]{fullShare} M7.view.writes (Elt F) f7 L) ∗ (∃ f, (M8.view.loc (c : Thread nD τ) ↦[M8.view.set]{fullShare} f)) ∗ (∃ f, (M9.view.loc (c : Thread nD τ) ↦[M9.view.set]{fullShare} f)) ∗ (∃ f, (M10.view.loc (c : Thread nD τ) ↦[M10.view.set]{fullShare} f))) -∗ K ⟨⟩))
      ⊢ wp frame (wpE (defs₀ (F := F)) Variants.none c none) E (cc0__body M0 h0 M1 h1 M2 h2 M3 h3 M4 h4 M5 h5 M6 h6 M7 h7 M8 h8 M9 h9 M10 h10) K } := by
  refine ⟨?_, fun f7 E K => ?run⟩
  case run =>
    rw [cc0__body_eq_skeleton]
    unfold cc0__body_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    iintro ⟨H0, H1, H2, H3, H4, H5, H6, H7, H8, H9, H10, HK⟩
    sl_exec
    sl_step
    iapply HK
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iexists _; iexact H10

end Cert.KernelIdeal.Body

end
-- ==== Proof.Frame.lean ====
/-
  The frame of the program around the body's one run: the operands' blocks go in, come back as they were, and whatever
  holds of every result the body may leave holds of the result's block. One triple serves both the frame (the result
  forgotten) and the value (the result named).
-/
module

public import proofs.«01_k».proof.Proof.Body
public import proofs.«01_k».proof.Proof.Gen.KernelIdeal.Points
public import Idealize.ShloMosaic.Lib.Pipeline.FrameBody
public import Idealize.ShloMosaic.Lib.Pipeline.FrameSuffix
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat)

variable {F : FTy → Type} [FloatOps F]

local notation "𝕄" => MT nD τ sig Unit (Elt F) ℕ (UR sig nD τ) ℕ

/-- Every result the body may leave, from operands that read as `X0 … X6`, satisfies `Q`: whatever the result's buffer
    and the three scratch buffers hold at entry. -/
def Leaves (c : Dev nD) (M0 : Memref sig .tc .vmem S64x4x14x432 .f32) (h0 : M0.IsWhole) (M1 : Memref sig .tc .vmem S27x32 .f32) (h1 : M1.IsWhole) (M2 : Memref sig .tc .vmem S9x32x64 .f32) (h2 : M2.IsWhole) (M3 : Memref sig .tc .vmem S9x64x128 .f32) (h3 : M3.IsWhole) (M4 : Memref sig .tc .vmem S9x128x128 .f32) (h4 : M4.IsWhole) (M5 : Memref sig .tc .vmem S128x512 .f32) (h5 : M5.IsWhole) (M6 : Memref sig .tc .vmem S512x128 .f32) (h6 : M6.IsWhole) (M7 : Memref sig .tc .vmem S4x14x14 .f32) (h7 : M7.IsWhole) (M8 : Memref sig .tc .vmem S64x4x16x16x32 .f32) (h8 : M8.IsWhole) (M9 : Memref sig .tc .vmem S16x4x16x16x64 .f32) (h9 : M9.IsWhole) (M10 : Memref sig .tc .vmem S4x4x16x16x128 .f32) (h10 : M10.IsWhole)
    (X0 : S64x4x14x432.Idx → Elt F .f32) (X1 : S27x32.Idx → Elt F .f32) (X2 : S9x32x64.Idx → Elt F .f32) (X3 : S9x64x128.Idx → Elt F .f32) (X4 : S9x128x128.Idx → Elt F .f32) (X5 : S128x512.Idx → Elt F .f32) (X6 : S512x128.Idx → Elt F .f32) (Q : (S4x14x14.Idx → Elt F .f32) → Prop) : Prop :=
  ∀ (f0 : BufTy.Contents (Elt F) M0.view.ty) (f1 : BufTy.Contents (Elt F) M1.view.ty) (f2 : BufTy.Contents (Elt F) M2.view.ty) (f3 : BufTy.Contents (Elt F) M3.view.ty) (f4 : BufTy.Contents (Elt F) M4.view.ty) (f5 : BufTy.Contents (Elt F) M5.view.ty) (f6 : BufTy.Contents (Elt F) M6.view.ty) (f7 : BufTy.Contents (Elt F) M7.view.ty) (f8 : BufTy.Contents (Elt F) M8.view.ty) (f9 : BufTy.Contents (Elt F) M9.view.ty) (f10 : BufTy.Contents (Elt F) M10.view.ty), M0.view.read (Elt F) f0 = X0 → M1.view.read (Elt F) f1 = X1 → M2.view.read (Elt F) f2 = X2 → M3.view.read (Elt F) f3 = X3 → M4.view.read (Elt F) f4 = X4 → M5.view.read (Elt F) f5 = X5 → M6.view.read (Elt F) f6 = X6 →
    Q (M7.view.read (Elt F) (M7.view.writes (Elt F) f7 (bodyRun c M0 h0 M1 h1 M2 h2 M3 h3 M4 h4 M5 h5 M6 h6 M7 h7 M8 h8 M9 h9 M10 h10 f0 f1 f2 f3 f4 f5 f6 f8 f9 f10).1))

/-- The body's triple over owned memrefs. -/
theorem triple (c : Dev nD) (M0 : Memref sig .tc .vmem S64x4x14x432 .f32) (h0 : M0.IsWhole) (M1 : Memref sig .tc .vmem S27x32 .f32) (h1 : M1.IsWhole) (M2 : Memref sig .tc .vmem S9x32x64 .f32) (h2 : M2.IsWhole) (M3 : Memref sig .tc .vmem S9x64x128 .f32) (h3 : M3.IsWhole) (M4 : Memref sig .tc .vmem S9x128x128 .f32) (h4 : M4.IsWhole) (M5 : Memref sig .tc .vmem S128x512 .f32) (h5 : M5.IsWhole) (M6 : Memref sig .tc .vmem S512x128 .f32) (h6 : M6.IsWhole) (M7 : Memref sig .tc .vmem S4x14x14 .f32) (h7 : M7.IsWhole) (M8 : Memref sig .tc .vmem S64x4x16x16x32 .f32) (h8 : M8.IsWhole) (M9 : Memref sig .tc .vmem S16x4x16x16x64 .f32) (h9 : M9.IsWhole) (M10 : Memref sig .tc .vmem S4x4x16x16x128 .f32) (h10 : M10.IsWhole)
    (X0 : S64x4x14x432.Idx → Elt F .f32) (X1 : S27x32.Idx → Elt F .f32) (X2 : S9x32x64.Idx → Elt F .f32) (X3 : S9x64x128.Idx → Elt F .f32) (X4 : S9x128x128.Idx → Elt F .f32) (X5 : S128x512.Idx → Elt F .f32) (X6 : S512x128.Idx → Elt F .f32) (Q : (S4x14x14.Idx → Elt F .f32) → Prop) (hQ : Leaves c M0 h0 M1 h1 M2 h2 M3 h3 M4 h4 M5 h5 M6 h6 M7 h7 M8 h8 M9 h9 M10 h10 X0 X1 X2 X3 X4 X5 X6 Q) (E : Set ℕ) (K : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ (∃ Y, owns (c : Thread nD τ) M7 fullShare Y) ∗ (∃ Y, owns (c : Thread nD τ) M8 fullShare Y) ∗ (∃ Y, owns (c : Thread nD τ) M9 fullShare Y) ∗ (∃ Y, owns (c : Thread nD τ) M10 fullShare Y)
      ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ (∃ Y, ⌜Q Y⌝ ∗ owns (c : Thread nD τ) M7 fullShare Y) ∗ (∃ Y, owns (c : Thread nD τ) M8 fullShare Y) ∗ (∃ Y, owns (c : Thread nD τ) M9 fullShare Y) ∗ (∃ Y, owns (c : Thread nD τ) M10 fullShare Y)) -∗ K ⟨⟩))
      ⊢ wp frame (wpE (defs₀ (F := F)) Variants.none c none) E (cc0__body M0 h0 M1 h1 M2 h2 M3 h3 M4 h4 M5 h5 M6 h6 M7 h7 M8 h8 M9 h9 M10 h10) K := by
  unfold owns
  iintro ⟨⟨%f0, %r0, H0⟩, ⟨%f1, %r1, H1⟩, ⟨%f2, %r2, H2⟩, ⟨%f3, %r3, H3⟩, ⟨%f4, %r4, H4⟩, ⟨%f5, %r5, H5⟩, ⟨%f6, %r6, H6⟩, ⟨%Y7, %f7, -, H7⟩, ⟨%Y8, %f8, -, H8⟩, ⟨%Y9, %f9, -, H9⟩, ⟨%Y10, %f10, -, H10⟩, HK⟩
  iapply ((bodyRun c M0 h0 M1 h1 M2 h2 M3 h3 M4 h4 M5 h5 M6 h6 M7 h7 M8 h8 M9 h9 M10 h10 f0 f1 f2 f3 f4 f5 f6 f8 f9 f10).2 f7 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, ⟨%g8, H8⟩, ⟨%g9, H9⟩, ⟨%g10, H10⟩⟩
  iapply HK
  isplitl [H0]; · iexists f0; isplitr; · ipureintro; exact r0
                  iexact H0
  isplitl [H1]; · iexists f1; isplitr; · ipureintro; exact r1
                  iexact H1
  isplitl [H2]; · iexists f2; isplitr; · ipureintro; exact r2
                  iexact H2
  isplitl [H3]; · iexists f3; isplitr; · ipureintro; exact r3
                  iexact H3
  isplitl [H4]; · iexists f4; isplitr; · ipureintro; exact r4
                  iexact H4
  isplitl [H5]; · iexists f5; isplitr; · ipureintro; exact r5
                  iexact H5
  isplitl [H6]; · iexists f6; isplitr; · ipureintro; exact r6
                  iexact H6
  isplitl [H7]
  · iexists (M7.view.read (Elt F) (M7.view.writes (Elt F) f7 (bodyRun c M0 h0 M1 h1 M2 h2 M3 h3 M4 h4 M5 h5 M6 h6 M7 h7 M8 h8 M9 h9 M10 h10 f0 f1 f2 f3 f4 f5 f6 f8 f9 f10).1))
    isplitr
    · ipureintro; exact hQ f0 f1 f2 f3 f4 f5 f6 f7 f8 f9 f10 r0 r1 r2 r3 r4 r5 r6
    iexists (M7.view.writes (Elt F) f7 (bodyRun c M0 h0 M1 h1 M2 h2 M3 h3 M4 h4 M5 h5 M6 h6 M7 h7 M8 h8 M9 h9 M10 h10 f0 f1 f2 f3 f4 f5 f6 f8 f9 f10).1); isplitr
    · ipureintro; rfl
    iexact H7
  isplitl [H8]; · iexists _; iexists g8; isplitr; · ipureintro; rfl
                  iexact H8
  isplitl [H9]; · iexists _; iexists g9; isplitr; · ipureintro; rfl
                  iexact H9
  iexists _; iexists g10; isplitr; · ipureintro; rfl
  iexact H10

variable (m : (ℓ : Loc nD τ sig) → Buf (Elt F) ℓ) (ρ : Dev nD → PrngReg)

/-- The pipeline's data: each operand's window keeps its block, the result's ends at `out`. -/
def dats (out : Dev nD → S4x14x14.Idx → Elt F .f32) (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => out c
  Φ _ := Pipeline.ΦA spec0 c
  q _ := fullShare
  owed _ := 0

theorem A_eq (out : Dev nD → S4x14x14.Idx → Elt F .f32) (c : Dev nD) (w : Fin cfg0.W) : (dats m out 0 c).A w = V m c (Pipeline.arrRef spec0 w) := by
  dsimp only [dats]
theorem after_0 (out : Dev nD → S4x14x14.Idx → Elt F .f32) (c : Dev nD) (t : Fin cfg0.N) : (dats m out 0 c).after 0 t = iblk m c 0 t := by dsimp only [dats]
theorem after_1 (out : Dev nD → S4x14x14.Idx → Elt F .f32) (c : Dev nD) (t : Fin cfg0.N) : (dats m out 0 c).after 1 t = iblk m c 1 t := by dsimp only [dats]
theorem after_2 (out : Dev nD → S4x14x14.Idx → Elt F .f32) (c : Dev nD) (t : Fin cfg0.N) : (dats m out 0 c).after 2 t = iblk m c 2 t := by dsimp only [dats]
theorem after_3 (out : Dev nD → S4x14x14.Idx → Elt F .f32) (c : Dev nD) (t : Fin cfg0.N) : (dats m out 0 c).after 3 t = iblk m c 3 t := by dsimp only [dats]
theorem after_4 (out : Dev nD → S4x14x14.Idx → Elt F .f32) (c : Dev nD) (t : Fin cfg0.N) : (dats m out 0 c).after 4 t = iblk m c 4 t := by dsimp only [dats]
theorem after_5 (out : Dev nD → S4x14x14.Idx → Elt F .f32) (c : Dev nD) (t : Fin cfg0.N) : (dats m out 0 c).after 5 t = iblk m c 5 t := by dsimp only [dats]
theorem after_6 (out : Dev nD → S4x14x14.Idx → Elt F .f32) (c : Dev nD) (t : Fin cfg0.N) : (dats m out 0 c).after 6 t = iblk m c 6 t := by dsimp only [dats]

/-- The three scratch buffers, held at some contents through their whole memrefs. -/
theorem scratch_eq (c : Dev nD) :
    (Pipeline.scopedRest (Ix := Unit) (Name := ℕ) (U := UR sig nD τ) (Lvl := ℕ) (Val := Elt F) spec0 c : sProp 𝕄)
      = iprop((∃ Y, owns (c : Thread nD τ) (Memref.whole cc0_scratch0) fullShare Y) ∗ (∃ Y, owns (c : Thread nD τ) (Memref.whole cc0_scratch1) fullShare Y) ∗ (∃ Y, owns (c : Thread nD τ) (Memref.whole cc0_scratch2) fullShare Y)) := by
  rw [scopedRest0_eq]
  simp only [owns_whole]

/-- What the body leaves at launch, from the blocks the windows fetch. -/
abbrev LeavesAt (c : Dev nD) (t : Fin cfg0.N) (Q : (S4x14x14.Idx → Elt F .f32) → Prop) : Prop :=
  Leaves c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) (iblk m c 5 t) (iblk m c 6 t) Q

theorem defs₀_row (t : Fin cfg0.N) : defs₀ (F := F) .tc cfg0.body (cfg0.bodyArgs t (cfg0.slots t)) = bodyAt0 t := by
  unfold defs₀; rw [Defs.onTc_tc]

/-- The invariant, the debts and the windows before the body, the result's window at whatever it holds. -/
abbrev pre (out : Dev nD → S4x14x14.Idx → Elt F .f32) (c : Dev nD) (t : Fin cfg0.N) : sProp 𝕄 :=
  iprop((dats m out 0 c).Φ t.castSucc ∗ (dats m out 0 c).owesAt () t.castSucc
    ∗ (∃ d, owns (c : Thread nD τ) (win0_0.stage (cfg0.slots t 0)) fullShare ((dats m out 0 c).before 0 t d)) ∗ (∃ d, owns (c : Thread nD τ) (win0_1.stage (cfg0.slots t 1)) fullShare ((dats m out 0 c).before 1 t d)) ∗ (∃ d, owns (c : Thread nD τ) (win0_2.stage (cfg0.slots t 2)) fullShare ((dats m out 0 c).before 2 t d)) ∗ (∃ d, owns (c : Thread nD τ) (win0_3.stage (cfg0.slots t 3)) fullShare ((dats m out 0 c).before 3 t d)) ∗ (∃ d, owns (c : Thread nD τ) (win0_4.stage (cfg0.slots t 4)) fullShare ((dats m out 0 c).before 4 t d)) ∗ (∃ d, owns (c : Thread nD τ) (win0_5.stage (cfg0.slots t 5)) fullShare ((dats m out 0 c).before 5 t d)) ∗ (∃ d, owns (c : Thread nD τ) (win0_6.stage (cfg0.slots t 6)) fullShare ((dats m out 0 c).before 6 t d)) ∗ (∃ X, owns (c : Thread nD τ) (win0_7.stage (cfg0.slots t 7)) fullShare X))

/-- The same after it, the result's window at something that satisfies `Q`. -/
abbrev post (out : Dev nD → S4x14x14.Idx → Elt F .f32) (Q : (S4x14x14.Idx → Elt F .f32) → Prop) (c : Dev nD) (t : Fin cfg0.N) : sProp 𝕄 :=
  iprop((dats m out 0 c).Φ t.succ ∗ (dats m out 0 c).owesAt () t.succ
    ∗ owns (c : Thread nD τ) (win0_0.stage (cfg0.slots t 0)) fullShare ((dats m out 0 c).after 0 t) ∗ owns (c : Thread nD τ) (win0_1.stage (cfg0.slots t 1)) fullShare ((dats m out 0 c).after 1 t) ∗ owns (c : Thread nD τ) (win0_2.stage (cfg0.slots t 2)) fullShare ((dats m out 0 c).after 2 t) ∗ owns (c : Thread nD τ) (win0_3.stage (cfg0.slots t 3)) fullShare ((dats m out 0 c).after 3 t) ∗ owns (c : Thread nD τ) (win0_4.stage (cfg0.slots t 4)) fullShare ((dats m out 0 c).after 4 t) ∗ owns (c : Thread nD τ) (win0_5.stage (cfg0.slots t 5)) fullShare ((dats m out 0 c).after 5 t) ∗ owns (c : Thread nD τ) (win0_6.stage (cfg0.slots t 6)) fullShare ((dats m out 0 c).after 6 t) ∗ (∃ X, ⌜Q X⌝ ∗ owns (c : Thread nD τ) (win0_7.stage (cfg0.slots t 7)) fullShare X))

theorem sound_body (out : Dev nD → S4x14x14.Idx → Elt F .f32) (Q : (S4x14x14.Idx → Elt F .f32) → Prop) (c : Dev nD) (t : Fin cfg0.N) (hQ : LeavesAt m c t Q) :
    pre m out c t ⊢ wp frame (wpE (defs₀ (F := F)) Variants.none c none) Set.univ (bodyAt0 t) (fun _ => post m out Q c t) := by
  unfold pre post bodyAt0
  rw [show (dats m out 0 c).Φ t.succ = Pipeline.ΦA spec0 c from rfl, show (dats m out 0 c).Φ t.castSucc = Pipeline.ΦA spec0 c from rfl]
  unfold Pipeline.ΦA
  rw [scratch_eq]
  unfold Dat.owesAt Pipeline.owesWithin
  rw [show (dats m out 0 c).owed t.castSucc = 0 from rfl, show (dats m out 0 c).owed t.succ = 0 from rfl]
  simp only [before0_0_of m (dats m out 0 c) (A_eq m out c 0) (after_0 m out c) t, after_0 m out c t, before0_1_of m (dats m out 0 c) (A_eq m out c 1) (after_1 m out c) t, after_1 m out c t, before0_2_of m (dats m out 0 c) (A_eq m out c 2) (after_2 m out c) t, after_2 m out c t, before0_3_of m (dats m out 0 c) (A_eq m out c 3) (after_3 m out c) t, after_3 m out c t, before0_4_of m (dats m out 0 c) (A_eq m out c 4) (after_4 m out c) t, after_4 m out c t, before0_5_of m (dats m out 0 c) (A_eq m out c 5) (after_5 m out c) t, after_5 m out c t, before0_6_of m (dats m out 0 c) (A_eq m out c 6) (after_6 m out c) t, after_6 m out c t]
  iintro ⟨⟨⟨H8, H9, H10⟩, Hg⟩, ⟨%W, -, HW⟩, ⟨%d0, H0⟩, ⟨%d1, H1⟩, ⟨%d2, H2⟩, ⟨%d3, H3⟩, ⟨%d4, H4⟩, ⟨%d5, H5⟩, ⟨%d6, H6⟩, H7⟩
  iapply (triple c _ _ _ _ _ _ _ _ _ _ _ _ _ _ _ _ _ _ _ _ _ _ (iblk m c 0 t) (iblk m c 1 t) (iblk m c 2 t) (iblk m c 3 t) (iblk m c 4 t) (iblk m c 5 t) (iblk m c 6 t) Q hQ)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [H8 H9 H10 Hg]
  · isplitl [H8 H9 H10]
    · isplitl [H8]; · iexact H8
      isplitl [H9]; · iexact H9
      iexact H10
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The result's window, forgotten. -/
def fgt (w : Fin cfg0.W) : Bool := match w with
  | 7 => true
  | _ => false

theorem post_forget (out : Dev nD → S4x14x14.Idx → Elt F .f32) (c : Dev nD) (t : Fin cfg0.N) :
    post m out (fun _ => True) c t ⊢ iprop((dats m out 0 c).Φ t.succ ∗ (dats m out 0 c).owesAt () t.succ
      ∗ owns (c : Thread nD τ) (win0_0.stage (cfg0.slots t 0)) fullShare ((dats m out 0 c).after 0 t) ∗ owns (c : Thread nD τ) (win0_1.stage (cfg0.slots t 1)) fullShare ((dats m out 0 c).after 1 t) ∗ owns (c : Thread nD τ) (win0_2.stage (cfg0.slots t 2)) fullShare ((dats m out 0 c).after 2 t) ∗ owns (c : Thread nD τ) (win0_3.stage (cfg0.slots t 3)) fullShare ((dats m out 0 c).after 3 t) ∗ owns (c : Thread nD τ) (win0_4.stage (cfg0.slots t 4)) fullShare ((dats m out 0 c).after 4 t) ∗ owns (c : Thread nD τ) (win0_5.stage (cfg0.slots t 5)) fullShare ((dats m out 0 c).after 5 t) ∗ owns (c : Thread nD τ) (win0_6.stage (cfg0.slots t 6)) fullShare ((dats m out 0 c).after 6 t) ∗ (∃ X, owns (c : Thread nD τ) (win0_7.stage (cfg0.slots t 7)) fullShare X)) := by
  unfold post
  iintro ⟨A, B, C0, C1, C2, C3, C4, C5, C6, ⟨%X, -, C7⟩⟩
  isplitl [A]; · iexact A
  isplitl [B]; · iexact B
  isplitl [C0]; · iexact C0
  isplitl [C1]; · iexact C1
  isplitl [C2]; · iexact C2
  isplitl [C3]; · iexact C3
  isplitl [C4]; · iexact C4
  isplitl [C5]; · iexact C5
  isplitl [C6]; · iexact C6
  iexists X; iexact C7

theorem pre_exact (out : Dev nD → S4x14x14.Idx → Elt F .f32) (c : Dev nD) (t : Fin cfg0.N) :
    iprop((dats m out 0 c).Φ t.castSucc ∗ (dats m out 0 c).owesAt () t.castSucc
      ∗ (∃ d, owns (c : Thread nD τ) (win0_0.stage (cfg0.slots t 0)) fullShare ((dats m out 0 c).before 0 t d)) ∗ (∃ d, owns (c : Thread nD τ) (win0_1.stage (cfg0.slots t 1)) fullShare ((dats m out 0 c).before 1 t d)) ∗ (∃ d, owns (c : Thread nD τ) (win0_2.stage (cfg0.slots t 2)) fullShare ((dats m out 0 c).before 2 t d)) ∗ (∃ d, owns (c : Thread nD τ) (win0_3.stage (cfg0.slots t 3)) fullShare ((dats m out 0 c).before 3 t d)) ∗ (∃ d, owns (c : Thread nD τ) (win0_4.stage (cfg0.slots t 4)) fullShare ((dats m out 0 c).before 4 t d)) ∗ (∃ d, owns (c : Thread nD τ) (win0_5.stage (cfg0.slots t 5)) fullShare ((dats m out 0 c).before 5 t d)) ∗ (∃ d, owns (c : Thread nD τ) (win0_6.stage (cfg0.slots t 6)) fullShare ((dats m out 0 c).before 6 t d)) ∗ (∃ d, owns (c : Thread nD τ) (win0_7.stage (cfg0.slots t 7)) fullShare ((dats m out 0 c).before 7 t d))) ⊢ pre m out c t := by
  unfold pre
  iintro ⟨A, B, C0, C1, C2, C3, C4, C5, C6, ⟨%d, C7⟩⟩
  isplitl [A]; · iexact A
  isplitl [B]; · iexact B
  isplitl [C0]; · iexact C0
  isplitl [C1]; · iexact C1
  isplitl [C2]; · iexact C2
  isplitl [C3]; · iexact C3
  isplitl [C4]; · iexact C4
  isplitl [C5]; · iexact C5
  isplitl [C6]; · iexact C6
  iexists _; iexact C7

theorem post_exact (out : Dev nD → S4x14x14.Idx → Elt F .f32) (c : Dev nD) (t : Fin cfg0.N) :
    post m out (fun X => X = out c) c t ⊢ iprop((dats m out 0 c).Φ t.succ ∗ (dats m out 0 c).owesAt () t.succ
      ∗ owns (c : Thread nD τ) (win0_0.stage (cfg0.slots t 0)) fullShare ((dats m out 0 c).after 0 t) ∗ owns (c : Thread nD τ) (win0_1.stage (cfg0.slots t 1)) fullShare ((dats m out 0 c).after 1 t) ∗ owns (c : Thread nD τ) (win0_2.stage (cfg0.slots t 2)) fullShare ((dats m out 0 c).after 2 t) ∗ owns (c : Thread nD τ) (win0_3.stage (cfg0.slots t 3)) fullShare ((dats m out 0 c).after 3 t) ∗ owns (c : Thread nD τ) (win0_4.stage (cfg0.slots t 4)) fullShare ((dats m out 0 c).after 4 t) ∗ owns (c : Thread nD τ) (win0_5.stage (cfg0.slots t 5)) fullShare ((dats m out 0 c).after 5 t) ∗ owns (c : Thread nD τ) (win0_6.stage (cfg0.slots t 6)) fullShare ((dats m out 0 c).after 6 t) ∗ owns (c : Thread nD τ) (win0_7.stage (cfg0.slots t 7)) fullShare ((dats m out 0 c).after 7 t)) := by
  unfold post
  iintro ⟨A, B, C0, C1, C2, C3, C4, C5, C6, ⟨%X, %hX, C7⟩⟩
  rw [show (dats m out 0 c).after 7 t = out c from rfl, ← hX]
  isplitl [A]; · iexact A
  isplitl [B]; · iexact B
  isplitl [C0]; · iexact C0
  isplitl [C1]; · iexact C1
  isplitl [C2]; · iexact C2
  isplitl [C3]; · iexact C3
  isplitl [C4]; · iexact C4
  isplitl [C5]; · iexact C5
  isplitl [C6]; · iexact C6
  iexact C7

/-- The body's obligation with the result forgotten. -/
theorem obligation_forget (out : Dev nD → S4x14x14.Idx → Elt F .f32) (c : Dev nD) :
    BodyObligationLoose (dats m out 0 c) (defs₀ (F := F)) Variants.none () Set.univ fgt := fun t => by
  rw [bigSep_W0, bigSep_W0, defs₀_row]
  exact triple_restated (sound_body m out (fun _ => True) c t (fun _ _ _ _ _ _ _ _ _ _ _ _ _ _ _ _ _ _ => trivial)) rfl .rfl fun _ => post_forget m out c t

/-- The body's obligation with the result named. -/
theorem obligation_exact (out : Dev nD → S4x14x14.Idx → Elt F .f32) (h : ∀ c t, LeavesAt m c t (fun X => X = out c)) (c : Dev nD) :
    BodyObligation (dats m out 0 c) (defs₀ (F := F)) Variants.none () Set.univ := fun t => by
  rw [bigSep_W0, bigSep_W0, defs₀_row]
  exact triple_restated (sound_body m out (fun X => X = out c) c t (h c t)) rfl (pre_exact m out c t) fun _ => post_exact m out c t

set_option backward.isDefEq.respectTransparency.types false in
/-- The frame with every semaphore counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  let hout : Dev nD → S4x14x14.Idx → Elt F .f32 := fun _ _ => FloatOps.ofBits .f32 0
  refine Pipeline.θ_run_frame_around_T_forget cfgs (dats m hout) (0 : Fin 1) launch0 defs₀ Variants.none fgt {main_v43} m ρ main
    (fun c => obligation_forget m hout c) (fun c => (dats m hout 0 c).share_full fun _ => rfl) (fun _ _ => rfl) (V0 m) [hostOps1]
    sfx_sub sfx_fresh sfx_keeps ?_ (hmain m Variants.none) (A_eq m hout) (fun _ _ => rfl) _ ?_
  · intro ops hops op hop b hb
    simp only [List.mem_cons, List.mem_nil_iff, or_false] at hops
    rcases hops with rfl
    simp only [hostOps1, List.mem_cons, List.mem_nil_iff, or_false] at hop
    rcases hop with rfl
    simp only [StableHlo.reshape_writes, Finset.mem_singleton] at hb ⊢
    exact Proc.devRef_injective _ hb
  · rintro r ⟨h, hs⟩
    have hr : ∀ (c : Dev nD) (b : Ref sig .tc) (hb : b ∈ Pipeline.restRefs sig spec0) (hT : b ∉ ({main_v43} : Finset (Ref sig .tc))),
        r.2.mem ((c.tc : Thread nD τ).loc b) = V m c b := fun c b hb hT => (h c).2 b (Finset.mem_sdiff.mpr ⟨hb, hT⟩)
    exact ⟨fun c => ⟨
      (hr c main_arg0 (Pipeline.mem_restRefs_of main_arg0 (by decide) (by decide)) (by decide)).trans (V_main_arg0 m c),
      (hr c main_arg1 (Pipeline.mem_restRefs_of main_arg1 (by decide) (by decide)) (by decide)).trans (V_main_arg1 m c),
      (hr c main_arg2 (Pipeline.mem_restRefs_of main_arg2 (by decide) (by decide)) (by decide)).trans (V_main_arg2 m c),
      (hr c main_arg3 (Pipeline.mem_restRefs_of main_arg3 (by decide) (by decide)) (by decide)).trans (V_main_arg3 m c),
      (hr c main_arg4 (Pipeline.mem_restRefs_of main_arg4 (by decide) (by decide)) (by decide)).trans (V_main_arg4 m c),
      (RDat.FramePostR.arr_in h c 6 rfl).trans (V_main_arg5 m c)⟩, hs⟩

end Cert.KernelIdeal.Body

end
-- ==== Proof.Spec.lean ====
/-
  The mathematics both sides are compared with. An image has a batch, a row, a column and a channel; its rows and columns
  are all natural numbers, and it is zero from row or column `n` on. One layer is a 3×3 convolution of stride two, padded
  on the bottom and on the right by that zero, followed by the maximum with zero.
-/
module

public import Idealize.ShloMosaic.Lib.Pointwise

@[expose] public section

noncomputable section

namespace Cert.Math

open Idealize.ShloMosaic

/-- An image of four batch entries: batch, row, column, channel. -/
abbrev Image (C : ℕ) := Fin 4 → ℕ → ℕ → Fin C → EReal

/-- The weights of a 3×3 layer: tap `3 dy + dx`, input channel, output channel. -/
abbrev Weights (C O : ℕ) := Fin 9 → Fin C → Fin O → EReal

/-- What the tap in row `dy` and column `dx` of the window adds at output row `r` and column `c`. -/
def tap {C O : ℕ} (h : Image C) (W : Weights C O) (b : Fin 4) (r c : ℕ) (o : Fin O) (dy dx : ℕ) (t : Fin 9) : EReal :=
  ∑ k : Fin C, h b (2 * r + dy) (2 * c + dx) k * W t k o

/-- The nine taps added up, row by row. -/
def taps {C O : ℕ} (h : Image C) (W : Weights C O) (b : Fin 4) (r c : ℕ) (o : Fin O) : EReal :=
  tap h W b r c o 0 0 0 + tap h W b r c o 0 1 1 + tap h W b r c o 0 2 2
    + tap h W b r c o 1 0 3 + tap h W b r c o 1 1 4 + tap h W b r c o 1 2 5
    + tap h W b r c o 2 0 6 + tap h W b r c o 2 1 7 + tap h W b r c o 2 2 8

/-- One layer with an `n` by `n` result. -/
def layer {C O : ℕ} (n : ℕ) (h : Image C) (W : Weights C O) : Image O :=
  fun b r c o => if r < n ∧ c < n then max (taps h W b r c o) 0 else 0

/-- A layer's value inside its square, out of nine sums that are its taps. -/
theorem layer_of_sums {C O n : ℕ} {h : Image C} {W : Weights C O} {b : Fin 4} {r c : ℕ} {o : Fin O}
    (hr : r < n) (hc : c < n)
    {l0 l1 l2 l3 l4 l5 l6 l7 l8 : Fin C → EReal}
    (h0 : ∀ k, l0 k = h b (2 * r + 0) (2 * c + 0) k) (h1 : ∀ k, l1 k = h b (2 * r + 0) (2 * c + 1) k)
    (h2 : ∀ k, l2 k = h b (2 * r + 0) (2 * c + 2) k) (h3 : ∀ k, l3 k = h b (2 * r + 1) (2 * c + 0) k)
    (h4 : ∀ k, l4 k = h b (2 * r + 1) (2 * c + 1) k) (h5 : ∀ k, l5 k = h b (2 * r + 1) (2 * c + 2) k)
    (h6 : ∀ k, l6 k = h b (2 * r + 2) (2 * c + 0) k) (h7 : ∀ k, l7 k = h b (2 * r + 2) (2 * c + 1) k)
    (h8 : ∀ k, l8 k = h b (2 * r + 2) (2 * c + 2) k) :
    max ((∑ k, l0 k * W 0 k o) + (∑ k, l1 k * W 1 k o) + (∑ k, l2 k * W 2 k o) + (∑ k, l3 k * W 3 k o)
      + (∑ k, l4 k * W 4 k o) + (∑ k, l5 k * W 5 k o) + (∑ k, l6 k * W 6 k o) + (∑ k, l7 k * W 7 k o)
      + (∑ k, l8 k * W 8 k o)) 0 = layer n h W b r c o := by
  rw [layer, if_pos ⟨hr, hc⟩]
  simp only [taps, tap, h0, h1, h2, h3, h4, h5, h6, h7, h8]

/-- Outside its square a layer is zero. -/
theorem layer_outside {C O n : ℕ} {h : Image C} {W : Weights C O} {b : Fin 4} {r c : ℕ} {o : Fin O}
    (hrc : n ≤ r ∨ n ≤ c) : layer n h W b r c o = 0 :=
  if_neg fun h' => by omega

/-- An image split by the remainders of its rows and columns: entry `(p, b, I, J, k)` is the image at row
    `s I + p / s` and column `s J + p % s`. -/
def grid {P C : ℕ} (s : ℕ) (h : Image C) : (⟨5, ![P, 4, 16, 16, C]⟩ : Shape).Idx → EReal :=
  fun y => h (y 1) (s * (y 2).val + (y 0).val / s) (s * (y 3).val + (y 0).val % s) (y 4)

/-- `X` holds the image `h` so split, in all rows and columns below 15. -/
def Holds {P C : ℕ} (s : ℕ) (h : Image C) (X : (⟨5, ![P, 4, 16, 16, C]⟩ : Shape).Idx → EReal) : Prop :=
  ∀ (p : Fin P) (b : Fin 4) (I J : Fin 16) (k : Fin C), I.val ≤ 14 → J.val ≤ 14 →
    X (ix5 p b I J k) = h b (s * I.val + p.val / s) (s * J.val + p.val % s) k

/-- One entry of a held image, its row and column named. -/
theorem Holds.at {P C s : ℕ} {h : Image C} {X : (⟨5, ![P, 4, 16, 16, C]⟩ : Shape).Idx → EReal} (hX : Holds s h X)
    (p : Fin P) (b : Fin 4) (I J : Fin 16) (k : Fin C) (hI : I.val ≤ 14) (hJ : J.val ≤ 14) {r c : ℕ}
    (hr : s * I.val + p.val / s = r) (hc : s * J.val + p.val % s = c) : X (ix5 p b I J k) = h b r c k := by
  subst hr hc
  exact hX p b I J k hI hJ

/-- One entry of a held image, read through a window whose corner is given by an equation. -/
theorem Holds.window {P C s p i0 I J r c : ℕ} {h : Image C} {X : (⟨5, ![P, 4, 16, 16, C]⟩ : Shape).Idx → EReal}
    (hX : Holds s h X) {off : Fin 5 → ℕ} (hoff : off = ![p, 0, i0, 0, 0]) (b : Fin 4) (k : Fin C)
    {h0 : off 0 < P} {h1 : off 1 + b.val < 4} {h2 : off 2 + I < 16} {h3 : off 3 + J < 16} {h4 : off 4 + k.val < C}
    (hI : i0 + I ≤ 14) (hJ : J ≤ 14) (hr : s * (i0 + I) + p / s = r) (hc : s * J + p % s = c) :
    X (ix5 (⟨off 0, h0⟩ : Fin P) ⟨off 1 + b.val, h1⟩ ⟨off 2 + I, h2⟩ ⟨off 3 + J, h3⟩ ⟨off 4 + k.val, h4⟩) = h b r c k := by
  subst hoff hr hc
  have e1 : (⟨(![p, 0, i0, 0, 0] : Fin 5 → ℕ) 1 + b.val, h1⟩ : Fin 4) = b := Fin.ext (Nat.zero_add _)
  have e4 : (⟨(![p, 0, i0, 0, 0] : Fin 5 → ℕ) 4 + k.val, h4⟩ : Fin C) = k := Fin.ext (Nat.zero_add _)
  have e3 : (![p, 0, i0, 0, 0] : Fin 5 → ℕ) 3 + J = J := Nat.zero_add _
  rw [e1, e4]
  refine (hX _ _ _ _ _ hI (e3.trans_le hJ)).trans ?_
  show h b (s * (i0 + I) + p / s) (s * ((![p, 0, i0, 0, 0] : Fin 5 → ℕ) 3 + J) + p % s) k = _
  rw [e3]

/-- An image that is zero from row or column `n` on. -/
def ZeroFrom {C : ℕ} (n : ℕ) (h : Image C) : Prop := ∀ b r c k, n ≤ r ∨ n ≤ c → h b r c k = 0

theorem layer_zeroFrom {C O n : ℕ} (h : Image C) (W : Weights C O) : ZeroFrom n (layer n h W) :=
  fun _ _ _ _ hrc => layer_outside hrc

end Cert.Math

end
-- ==== Proof.Pieces.lean ====
/-
  Buffers written piece by piece. Every store into a scratch buffer writes values of ONE function of the buffer's index
  (the split image of Spec), so the buffer reads that function wherever some store reached, in whatever order the stores
  came.
-/
module

public import proofs.«01_k».proof.Proof.Spec
public import Idealize.ShloMosaic.Lib.WritesUnit

@[expose] public section

noncomputable section

namespace Cert.Math

open Idealize.ShloMosaic

/-- Every piece of the list writes values of `G`. -/
def Agrees {s : Shape} (G : s.Idx → EReal) (L : List (View.Piece (Elt Ideal) s .f32)) : Prop :=
  ∀ p ∈ L, ∀ x : p.1.shape.Idx, p.2 x = G (p.1.emb x)

/-- Some piece of the list writes at `y`. -/
def Reached {s : Shape} (L : List (View.Piece (Elt Ideal) s .f32)) (y : s.Idx) : Prop :=
  ∃ p ∈ L, y ∈ p.1.set

theorem Agrees.nil {s : Shape} {G : s.Idx → EReal} : Agrees G [] := fun _ h => absurd h List.not_mem_nil

theorem Agrees.cons {s : Shape} {G : s.Idx → EReal} {r : Rect s} {w : r.shape.Idx → EReal}
    {L : List (View.Piece (Elt Ideal) s .f32)} (hw : ∀ x, w x = G (r.emb x)) (hL : Agrees G L) :
    Agrees G (⟨r, w⟩ :: L) := by
  intro p hp
  rcases List.mem_cons.mp hp with rfl | hp
  · exact hw
  · exact hL p hp

theorem Agrees.append {s : Shape} {G : s.Idx → EReal} {L L' : List (View.Piece (Elt Ideal) s .f32)}
    (h : Agrees G L) (h' : Agrees G L') : Agrees G (L ++ L') := by
  intro p hp
  rcases List.mem_append.mp hp with hp | hp
  · exact h p hp
  · exact h' p hp

theorem Reached.head {s : Shape} {r : Rect s} {w : r.shape.Idx → EReal} {L : List (View.Piece (Elt Ideal) s .f32)}
    {y : s.Idx} (h : y ∈ r.set) : Reached (⟨r, w⟩ :: L) y := ⟨⟨r, w⟩, List.mem_cons_self, h⟩

theorem Reached.tail {s : Shape} {p : View.Piece (Elt Ideal) s .f32} {L : List (View.Piece (Elt Ideal) s .f32)} {y : s.Idx}
    (h : Reached L y) : Reached (p :: L) y := by
  obtain ⟨q, hq, hy⟩ := h
  exact ⟨q, List.mem_cons_of_mem _ hq, hy⟩

theorem Reached.left {s : Shape} {L L' : List (View.Piece (Elt Ideal) s .f32)} {y : s.Idx}
    (h : Reached L y) : Reached (L ++ L') y := by
  obtain ⟨q, hq, hy⟩ := h
  exact ⟨q, List.mem_append_left _ hq, hy⟩

theorem Reached.right {s : Shape} {L L' : List (View.Piece (Elt Ideal) s .f32)} {y : s.Idx}
    (h : Reached L' y) : Reached (L ++ L') y := by
  obtain ⟨q, hq, hy⟩ := h
  exact ⟨q, List.mem_append_right _ hq, hy⟩

/-- The pieces a counted loop lists before its trip `n` are those of the trips before it. -/
theorem mem_trips {s : Shape} {N : ℕ} (pb : ℕ → List (View.Piece (Elt Ideal) s .f32))
    (trip : Fin N → List (View.Piece (Elt Ideal) s .f32)) (h0 : pb 0 = [])
    (hs : ∀ k : Fin N, pb (k.val + 1) = trip k ++ pb k.val) (p : View.Piece (Elt Ideal) s .f32) :
    ∀ n, n ≤ N → (p ∈ pb n ↔ ∃ k : Fin N, k.val < n ∧ p ∈ trip k)
  | 0, _ => by simp [h0]
  | n + 1, hn => by
    rw [hs ⟨n, hn⟩, List.mem_append, mem_trips pb trip h0 hs p n (by omega)]
    constructor
    · rintro (h | ⟨k, hk, h⟩)
      · exact ⟨⟨n, hn⟩, Nat.lt_succ_self n, h⟩
      · exact ⟨k, by omega, h⟩
    · rintro ⟨k, hk, h⟩
      rcases Nat.lt_succ_iff_lt_or_eq.mp hk with hk | hk
      · exact Or.inr ⟨k, hk, h⟩
      · obtain rfl : k = ⟨n, hn⟩ := Fin.ext hk
        exact Or.inl h

/-- A loop's pieces agree with `G` where each trip's do. -/
theorem Agrees.trips {s : Shape} {G : s.Idx → EReal} {N : ℕ} (pb : ℕ → List (View.Piece (Elt Ideal) s .f32))
    (trip : Fin N → List (View.Piece (Elt Ideal) s .f32)) (h0 : pb 0 = [])
    (hs : ∀ k : Fin N, pb (k.val + 1) = trip k ++ pb k.val) (h : ∀ k, Agrees G (trip k)) : Agrees G (pb N) := by
  intro p hp
  obtain ⟨k, -, hk⟩ := (mem_trips pb trip h0 hs p N le_rfl).mp hp
  exact h k p hk

/-- A loop's pieces reach what one trip's do. -/
theorem Reached.trips {s : Shape} {N : ℕ} (pb : ℕ → List (View.Piece (Elt Ideal) s .f32))
    (trip : Fin N → List (View.Piece (Elt Ideal) s .f32)) (h0 : pb 0 = [])
    (hs : ∀ k : Fin N, pb (k.val + 1) = trip k ++ pb k.val) {y : s.Idx} (k : Fin N) (h : Reached (trip k) y) :
    Reached (pb N) y := by
  obtain ⟨p, hp, hy⟩ := h
  exact ⟨p, (mem_trips pb trip h0 hs p N le_rfl).mpr ⟨k, k.isLt, hp⟩, hy⟩

/-- A store of one phase's window writes the split image, where its values do. -/
theorem writes_grid {P C s a d p i0 j0 : ℕ} {h : Image C} {off : Fin 5 → ℕ}
    {inb : ∀ x, off x + ![1, 4, a, d, C] x ≤ (⟨5, ![P, 4, 16, 16, C]⟩ : Shape).size x}
    (hoff : off = ![p, 0, i0, j0, 0]) {w : (⟨5, ![1, 4, a, d, C]⟩ : Shape).Idx → EReal}
    (hw : ∀ (b : Fin 4) (I : Fin a) (J : Fin d) (k : Fin C),
      w (ix5 (0 : Fin 1) b I J k) = h b (s * (i0 + I.val) + p / s) (s * (j0 + J.val) + p % s) k)
    (x : (⟨5, ![1, 4, a, d, C]⟩ : Shape).Idx) :
    w x = grid s h ((Rect.unit (s := ⟨5, ![P, 4, 16, 16, C]⟩) off ![1, 4, a, d, C] inb).emb x) := by
  subst hoff
  obtain ⟨b, I, J, k, rfl⟩ : ∃ (b : Fin 4) (I : Fin a) (J : Fin d) (k : Fin C), x = ix5 (0 : Fin 1) b I J k :=
    ⟨x 1, x 2, x 3, x 4, funext fun i => match i with
      | 0 => Subsingleton.elim (α := Fin 1) _ _
      | 1 => rfl
      | 2 => rfl
      | 3 => rfl
      | 4 => rfl⟩
  rw [hw]
  have e1 : (Rect.unit (s := ⟨5, ![P, 4, 16, 16, C]⟩) ![p, 0, i0, j0, 0] ![1, 4, a, d, C] inb).emb
      (ix5 (0 : Fin 1) b I J k) 1 = b := Fin.ext (by show 0 + 1 * b.val = b.val; omega)
  have e4 : (Rect.unit (s := ⟨5, ![P, 4, 16, 16, C]⟩) ![p, 0, i0, j0, 0] ![1, 4, a, d, C] inb).emb
      (ix5 (0 : Fin 1) b I J k) 4 = k := Fin.ext (by show 0 + 1 * k.val = k.val; omega)
  unfold grid
  rw [e1, e4]
  show _ = h b (s * (i0 + 1 * I.val) + (p + 1 * 0) / s) (s * (j0 + 1 * J.val) + (p + 1 * 0) % s) k
  simp only [Nat.one_mul, Nat.mul_zero, Nat.add_zero]

/-- An index of one phase's window. -/
theorem mem_window {P C a d p i0 j0 : ℕ} {off : Fin 5 → ℕ}
    {inb : ∀ x, off x + ![1, 4, a, d, C] x ≤ (⟨5, ![P, 4, 16, 16, C]⟩ : Shape).size x}
    (hoff : off = ![p, 0, i0, j0, 0]) {y : (⟨5, ![P, 4, 16, 16, C]⟩ : Shape).Idx}
    (h0 : (y 0).val = p) (h2 : i0 ≤ (y 2).val) (h2' : (y 2).val < i0 + a) (h3 : j0 ≤ (y 3).val)
    (h3' : (y 3).val < j0 + d) :
    y ∈ (Rect.unit (s := ⟨5, ![P, 4, 16, 16, C]⟩) off ![1, 4, a, d, C] inb).set := by
  subst hoff
  rw [Rect.mem_set_unit]
  have h1 : (y 1).val < 4 := (y 1).isLt
  have h4 : (y 4).val < C := (y 4).isLt
  intro x
  match x with
  | 0 => exact ⟨h0.ge, (show (y 0).val < p + 1 by omega)⟩
  | 1 => exact ⟨Nat.zero_le _, (show (y 1).val < 0 + 4 by omega)⟩
  | 2 => exact ⟨h2, h2'⟩
  | 3 => exact ⟨h3, h3'⟩
  | 4 => exact ⟨Nat.zero_le _, (show (y 4).val < 0 + C by omega)⟩

/-- A buffer whose pieces agree with the split image and reach its first 15 rows and columns holds it. -/
theorem holds_of_pieces {sig : RefSig} {κ : Kind} {sp : Space} {P C s : ℕ} {h : Image C}
    (v : View sig κ sp ⟨5, ![P, 4, 16, 16, C]⟩ .f32) (f : v.ty.Contents (Elt Ideal))
    {L : List (View.Piece (Elt Ideal) ⟨5, ![P, 4, 16, 16, C]⟩ .f32)} (hA : Agrees (grid s h) L)
    (hR : ∀ y : (⟨5, ![P, 4, 16, 16, C]⟩ : Shape).Idx, (y 2).val ≤ 14 → (y 3).val ≤ 14 → Reached L y) :
    Holds s h (v.read (Elt Ideal) (v.writes (Elt Ideal) f L)) :=
  fun p b I J k hI hJ => View.read_writes_apply_of_pieces v f (grid s h) L hA _ (hR _ hI hJ)

/-- The two stores that zero column 14 and row 14 of phase `p`: they write the split image of an image that is zero
    from row or column `14 s` on, and reach that row and that column. -/
theorem pad_pieces {P C s p : ℕ} {h : Image C} (hz : ZeroFrom (14 * s) h) {offC offR : Fin 5 → ℕ}
    {inbC : ∀ x, offC x + ![1, 4, 16, 1, C] x ≤ (⟨5, ![P, 4, 16, 16, C]⟩ : Shape).size x}
    {inbR : ∀ x, offR x + ![1, 4, 1, 16, C] x ≤ (⟨5, ![P, 4, 16, 16, C]⟩ : Shape).size x}
    (hC : offC = ![p, 0, 0, 14, 0]) (hR : offR = ![p, 0, 14, 0, 0])
    {wC : (⟨5, ![1, 4, 16, 1, C]⟩ : Shape).Idx → EReal} {wR : (⟨5, ![1, 4, 1, 16, C]⟩ : Shape).Idx → EReal}
    (zC : ∀ b I J k, wC (ix5 (0 : Fin 1) b I J k) = 0) (zR : ∀ b I J k, wR (ix5 (0 : Fin 1) b I J k) = 0) :
    let L : List (View.Piece (Elt Ideal) ⟨5, ![P, 4, 16, 16, C]⟩ .f32) :=
      [⟨Rect.unit offC ![1, 4, 16, 1, C] inbC, wC⟩, ⟨Rect.unit offR ![1, 4, 1, 16, C] inbR, wR⟩]
    Agrees (grid s h) L ∧ ∀ y : (⟨5, ![P, 4, 16, 16, C]⟩ : Shape).Idx, (y 0).val = p →
      (y 2).val = 14 ∨ (y 3).val = 14 → Reached L y := by
  have far : ∀ i j : ℕ, 14 * s ≤ s * (14 + i) + j := fun i j => by
    rw [Nat.mul_add, Nat.mul_comm 14 s, Nat.add_assoc]
    exact Nat.le_add_right _ _
  refine ⟨Agrees.cons (writes_grid hC fun b I J k => ?_) (Agrees.cons (writes_grid hR fun b I J k => ?_) Agrees.nil), ?_⟩
  · rw [zC, hz _ _ _ _ (Or.inr (far _ _))]
  · rw [zR, hz _ _ _ _ (Or.inl (far _ _))]
  · intro y hy h14
    have l2 : (y 2).val < 16 := (y 2).isLt
    have l3 : (y 3).val < 16 := (y 3).isLt
    rcases h14 with h14 | h14
    · have m := mem_window (a := 1) (d := 16) (inb := inbR) (y := y) hR hy (by omega) (by omega) (by omega) (by omega)
      exact (Reached.head m).tail
    · have m := mem_window (a := 16) (d := 1) (inb := inbC) (y := y) hC hy (by omega) (by omega) (by omega) (by omega)
      exact Reached.head m

end Cert.Math

end
-- ==== Proof.First.lean ====
/-
  The first scratch buffer: the first layer, stored phase by phase over 64 trips, with row 14 and column 14 of every phase
  zeroed before. The other two scratch buffers are zeroed the same way.
-/
module

public import proofs.«01_k».proof.Proof.Body
public import proofs.«01_k».proof.Proof.Pieces

@[expose] public section

set_option maxRecDepth 16384

noncomputable section

namespace Cert.KernelIdeal.Body

open Cert.KernelIdeal Cert.KernelIdeal.Gen Cert.Math
open Idealize.ShloMosaic Idealize.ShloMosaic.TcCoe Idealize.ShloMosaic.Tactic

variable (𝒱 : Variants) (c : Dev nD) (bd : Option 𝒱.V)
  (M0 : Memref sig .tc .vmem S64x4x14x432 .f32) (h0 : M0.IsWhole) (M1 : Memref sig .tc .vmem S27x32 .f32) (h1 : M1.IsWhole)
  (M2 : Memref sig .tc .vmem S9x32x64 .f32) (h2 : M2.IsWhole) (M3 : Memref sig .tc .vmem S9x64x128 .f32) (h3 : M3.IsWhole)
  (M4 : Memref sig .tc .vmem S9x128x128 .f32) (h4 : M4.IsWhole) (M5 : Memref sig .tc .vmem S128x512 .f32) (h5 : M5.IsWhole)
  (M6 : Memref sig .tc .vmem S512x128 .f32) (h6 : M6.IsWhole) (M7 : Memref sig .tc .vmem S4x14x14 .f32) (h7 : M7.IsWhole)
  (M8 : Memref sig .tc .vmem S64x4x16x16x32 .f32) (h8 : M8.IsWhole) (M9 : Memref sig .tc .vmem S16x4x16x16x64 .f32) (h9 : M9.IsWhole)
  (M10 : Memref sig .tc .vmem S4x4x16x16x128 .f32) (h10 : M10.IsWhole)

/-- A trip of the loop that zeroes row 14 and column 14 of a phase of scratch buffer 8. -/
theorem pad8 {h : Image 32} (hz : ZeroFrom 112 h) (k : Fin k0_t1_loop.trips) :
    Agrees (grid 8 h) (tripL_k0_t1 (F := Ideal) 𝒱 c bd M0 h0 M1 h1 M2 h2 M3 h3 M4 h4 M5 h5 M6 h6 M7 h7 M8 h8 M9 h9 M10 h10 k)
    ∧ ∀ y : S64x4x16x16x32.Idx, (y 0).val = k.val → (y 2).val = 14 ∨ (y 3).val = 14 →
      Reached (tripL_k0_t1 (F := Ideal) 𝒱 c bd M0 h0 M1 h1 M2 h2 M3 h3 M4 h4 M5 h5 M6 h6 M7 h7 M8 h8 M9 h9 M10 h10 k) y := by
  delta tripL_k0_t1 trip_k0_t1
  exact pad_pieces (p := k.val) hz (k0_off2_eq k) (k0_off1_eq k)
    (fun b I J ch => by pointwise [k0_pay14]) (fun b I J ch => by pointwise [k0_pay13])

/-- A trip of the loop that zeroes row 14 and column 14 of a phase of scratch buffer 9. -/
theorem pad9 {h : Image 64} (hz : ZeroFrom 56 h) (k : Fin k0_t2_loop.trips) :
    Agrees (grid 4 h) (tripL_k0_t2 (F := Ideal) 𝒱 c bd M0 h0 M1 h1 M2 h2 M3 h3 M4 h4 M5 h5 M6 h6 M7 h7 M8 h8 M9 h9 M10 h10 k)
    ∧ ∀ y : S16x4x16x16x64.Idx, (y 0).val = k.val → (y 2).val = 14 ∨ (y 3).val = 14 →
      Reached (tripL_k0_t2 (F := Ideal) 𝒱 c bd M0 h0 M1 h1 M2 h2 M3 h3 M4 h4 M5 h5 M6 h6 M7 h7 M8 h8 M9 h9 M10 h10 k) y := by
  delta tripL_k0_t2 trip_k0_t2
  exact pad_pieces (p := k.val) hz (k0_off4_eq k) (k0_off3_eq k)
    (fun b I J ch => by pointwise [k0_pay16]) (fun b I J ch => by pointwise [k0_pay15])

/-- A trip of the loop that zeroes row 14 and column 14 of a phase of scratch buffer 10. -/
theorem pad10 {h : Image 128} (hz : ZeroFrom 28 h) (k : Fin k0_t3_loop.trips) :
    Agrees (grid 2 h) (tripL_k0_t3 (F := Ideal) 𝒱 c bd M0 h0 M1 h1 M2 h2 M3 h3 M4 h4 M5 h5 M6 h6 M7 h7 M8 h8 M9 h9 M10 h10 k)
    ∧ ∀ y : S4x4x16x16x128.Idx, (y 0).val = k.val → (y 2).val = 14 ∨ (y 3).val = 14 →
      Reached (tripL_k0_t3 (F := Ideal) 𝒱 c bd M0 h0 M1 h1 M2 h2 M3 h3 M4 h4 M5 h5 M6 h6 M7 h7 M8 h8 M9 h9 M10 h10 k) y := by
  delta tripL_k0_t3 trip_k0_t3
  exact pad_pieces (p := k.val) hz (k0_off6_eq k) (k0_off5_eq k)
    (fun b I J ch => by pointwise [k0_pay18]) (fun b I J ch => by pointwise [k0_pay17])

/-- What the first layer's operands have to be for the image `h`: row `p` of the first holds, for every place of a
    phase, the 27 numbers its window covers. -/
def FirstLayer (h : Image 32) (X0 : S64x4x14x432.Idx → EReal) (X1 : S27x32.Idx → EReal) : Prop :=
  ∀ (p : Fin 64) (b : Fin 4) (I J : Fin 14) (o : Fin 32),
    max (∑ x : Fin 27, X0 (ix4 p b I ⟨J.val * 27 + x.val, by omega⟩) * X1 (ix2 x o)) 0
      = h b (8 * I.val + p.val / 8) (8 * J.val + p.val % 8) o

/-- A trip of the first layer's loop stores the layer in a phase, and reaches its window. -/
theorem first8 (v3 : S27x32.Idx → EReal) (X0 : M0.view.ty.Contents (Elt Ideal)) {h : Image 32}
    (hF : FirstLayer h (M0.view.read (Elt Ideal) X0) v3) (k : Fin k0_t4_loop.trips) :
    Agrees (grid 8 h) (tripL_k0_t4 (F := Ideal) 𝒱 c bd M0 h0 M1 h1 M2 h2 M3 h3 M4 h4 M5 h5 M6 h6 M7 h7 M8 h8 M9 h9 M10 h10 v3 X0 k)
    ∧ ∀ y : S64x4x16x16x32.Idx, (y 0).val = k.val → (y 2).val < 14 → (y 3).val < 14 →
      Reached (tripL_k0_t4 (F := Ideal) 𝒱 c bd M0 h0 M1 h1 M2 h2 M3 h3 M4 h4 M5 h5 M6 h6 M7 h7 M8 h8 M9 h9 M10 h10 v3 X0 k) y := by
  delta tripL_k0_t4 trip_k0_t4
  dsimp only
  have hk : k.val < 64 := k.isLt
  constructor
  · refine Agrees.cons (writes_grid (k0_off8_eq k) fun b I J o => ?_) Agrees.nil
    simp only [View.readAt_eq_ld]
    pointwise [k0_pay19]
    refine Eq.trans ?_ (hF ⟨k.val, hk⟩ b I J o)
    refine congrArg (max · 0) (Finset.sum_congr rfl fun x _ => congrArg (· * _) ?_)
    refine congrArg (M0.view.read (Elt Ideal) X0) (funext fun a => Fin.ext ?_)
    have e := k0_off7_eq k
    match a with
    | 0 => exact congrFun e 0
    | 1 => exact (congrArg (· + b.val) (congrFun e 1)).trans (Nat.zero_add _)
    | 2 => exact (congrArg (· + I.val) (congrFun e 2)).trans (Nat.zero_add _)
    | 3 => exact (congrArg (· + (J.val * 27 + x.val)) (congrFun e 3)).trans (Nat.zero_add _)
  · intro y hy h2y h3y
    have m := mem_window (a := 14) (d := 14) (inb := k0_off8_inb k) (y := y) (k0_off8_eq k) hy (by omega) (by omega)
      (by omega) (by omega)
    exact Reached.head m

/-- The pieces of the first scratch buffer: the zeroing loop, then the first layer's. -/
def pieces8 (f0 : M0.view.ty.Contents (Elt Ideal)) (f1 : M1.view.ty.Contents (Elt Ideal)) :
    List (View.Piece (Elt Ideal) S64x4x16x16x32 .f32) :=
  pb_k0_t4 (F := Ideal) 𝒱 c bd M0 h0 M1 h1 M2 h2 M3 h3 M4 h4 M5 h5 M6 h6 M7 h7 M8 h8 M9 h9 M10 h10
      (View.readAt (Elt Ideal) M1.view (Rect.unit ![0, 0] S27x32.size inb_S27x32_S27x32_0_0).toLoadRect f1) f0
      (Scf.trips k0_t4_loop.lb k0_t4_loop.ub k0_t4_loop.st)
    ++ pb_k0_t1 (F := Ideal) 𝒱 c bd M0 h0 M1 h1 M2 h2 M3 h3 M4 h4 M5 h5 M6 h6 M7 h7 M8 h8 M9 h9 M10 h10 (Scf.trips k0_t1_loop.lb k0_t1_loop.ub k0_t1_loop.st)

/-- After the first layer the first scratch buffer holds its image. -/
theorem holds8 (f0 : M0.view.ty.Contents (Elt Ideal)) (f1 : M1.view.ty.Contents (Elt Ideal))
    (f8 : M8.view.ty.Contents (Elt Ideal)) {h : Image 32} (hz : ZeroFrom 112 h)
    (hF : FirstLayer h (M0.view.read (Elt Ideal) f0) (M1.view.read (Elt Ideal) f1)) :
    Holds 8 h (M8.view.read (Elt Ideal) (M8.view.writes (Elt Ideal) f8 (pieces8 𝒱 c bd M0 h0 M1 h1 M2 h2 M3 h3 M4 h4 M5 h5 M6 h6 M7 h7 M8 h8 M9 h9 M10 h10 f0 f1))) := by
  have e1 : View.readAt (Elt Ideal) M1.view (Rect.unit ![0, 0] S27x32.size inb_S27x32_S27x32_0_0).toLoadRect f1
      = M1.view.read (Elt Ideal) f1 := by
    funext x
    idx_vars x
    simp only [View.readAt_eq_ld]
    pointwise
  refine holds_of_pieces M8.view f8 ?_ ?_
  · refine Agrees.append ?_ ?_
    · exact Agrees.trips _ _ rfl (fun k => pb_k0_t4_succ (F := Ideal) 𝒱 c bd M0 h0 M1 h1 M2 h2 M3 h3 M4 h4 M5 h5 M6 h6 M7 h7 M8 h8 M9 h9 M10 h10 _ f0 k)
        (fun k => (first8 𝒱 c bd M0 h0 M1 h1 M2 h2 M3 h3 M4 h4 M5 h5 M6 h6 M7 h7 M8 h8 M9 h9 M10 h10 _ f0 (e1 ▸ hF) k).1)
    · exact Agrees.trips _ _ rfl (fun k => pb_k0_t1_succ (F := Ideal) 𝒱 c bd M0 h0 M1 h1 M2 h2 M3 h3 M4 h4 M5 h5 M6 h6 M7 h7 M8 h8 M9 h9 M10 h10 k) (fun k => (pad8 𝒱 c bd M0 h0 M1 h1 M2 h2 M3 h3 M4 h4 M5 h5 M6 h6 M7 h7 M8 h8 M9 h9 M10 h10 hz k).1)
  · intro y h2y h3y
    have hp : (y 0).val < 64 := (y 0).isLt
    by_cases hy : (y 2).val = 14 ∨ (y 3).val = 14
    · exact Reached.right (Reached.trips _ _ rfl (fun k => pb_k0_t1_succ (F := Ideal) 𝒱 c bd M0 h0 M1 h1 M2 h2 M3 h3 M4 h4 M5 h5 M6 h6 M7 h7 M8 h8 M9 h9 M10 h10 k) ⟨(y 0).val, hp⟩
        ((pad8 𝒱 c bd M0 h0 M1 h1 M2 h2 M3 h3 M4 h4 M5 h5 M6 h6 M7 h7 M8 h8 M9 h9 M10 h10 hz ⟨(y 0).val, hp⟩).2 y rfl hy))
    · exact Reached.left (Reached.trips _ _ rfl (fun k => pb_k0_t4_succ (F := Ideal) 𝒱 c bd M0 h0 M1 h1 M2 h2 M3 h3 M4 h4 M5 h5 M6 h6 M7 h7 M8 h8 M9 h9 M10 h10 _ f0 k) ⟨(y 0).val, hp⟩
        ((first8 𝒱 c bd M0 h0 M1 h1 M2 h2 M3 h3 M4 h4 M5 h5 M6 h6 M7 h7 M8 h8 M9 h9 M10 h10 _ f0 (e1 ▸ hF) ⟨(y 0).val, hp⟩).2 y rfl (by omega) (by omega)))

end Cert.KernelIdeal.Body

end
-- ==== Proof.Second.lean ====
/-
  The second scratch buffer: the second layer. Its three loops (the phases inside, those of the last phase row, those of
  the last phase column) and the last phase each store values of one layer of the image the first buffer holds.
-/
module

public import proofs.«01_k».proof.Proof.Body
public import proofs.«01_k».proof.Proof.Pieces

@[expose] public section

set_option maxRecDepth 16384

noncomputable section

namespace Cert.KernelIdeal.Body

open Cert.KernelIdeal Cert.KernelIdeal.Gen Cert.Math
open Idealize.ShloMosaic Idealize.ShloMosaic.TcCoe Idealize.ShloMosaic.Tactic

variable (𝒱 : Variants) (c : Dev nD) (bd : Option 𝒱.V)
  (M0 : Memref sig .tc .vmem S64x4x14x432 .f32) (h0 : M0.IsWhole) (M1 : Memref sig .tc .vmem S27x32 .f32) (h1 : M1.IsWhole)
  (M2 : Memref sig .tc .vmem S9x32x64 .f32) (h2 : M2.IsWhole) (M3 : Memref sig .tc .vmem S9x64x128 .f32) (h3 : M3.IsWhole)
  (M4 : Memref sig .tc .vmem S9x128x128 .f32) (h4 : M4.IsWhole) (M5 : Memref sig .tc .vmem S128x512 .f32) (h5 : M5.IsWhole)
  (M6 : Memref sig .tc .vmem S512x128 .f32) (h6 : M6.IsWhole) (M7 : Memref sig .tc .vmem S4x14x14 .f32) (h7 : M7.IsWhole)
  (M8 : Memref sig .tc .vmem S64x4x16x16x32 .f32) (h8 : M8.IsWhole) (M9 : Memref sig .tc .vmem S16x4x16x16x64 .f32) (h9 : M9.IsWhole)
  (M10 : Memref sig .tc .vmem S4x4x16x16x128 .f32) (h10 : M10.IsWhole)

/-- Where the loop over the inner phases reads. -/
theorem off9_eq : ∀ (k : Fin k0_t5_loop.trips) (dy dx : Fin 3), k0_off9 k (BitVec.ofNat 32 dy.val) (BitVec.ofNat 32 dx.val)
    = ![8 * (2 * (k.val / 3) + dy.val) + (2 * (k.val % 3) + dx.val), 0, 0, 0, 0] := by decide +kernel

/-- Where it writes. -/
theorem off10_eq : ∀ k : Fin k0_t5_loop.trips, k0_off10 k = ![4 * (k.val / 3) + k.val % 3, 0, 0, 0, 0] := by
  decide +kernel

/-- Where the loop over the last phase column reads. -/
theorem off14_eq : ∀ (k : Fin k0_t7_loop.trips) (dy : Fin 3), k0_off14 k (BitVec.ofNat 32 dy.val) 6#32
      = ![8 * (2 * k.val + dy.val) + 6, 0, 0, 0, 0]
    ∧ k0_off14 k (BitVec.ofNat 32 dy.val) 7#32 = ![8 * (2 * k.val + dy.val) + 7, 0, 0, 0, 0]
    ∧ k0_off14 k (BitVec.ofNat 32 dy.val) 0#32 = ![8 * (2 * k.val + dy.val) + 0, 0, 0, 0, 0] := by decide +kernel

set_option maxHeartbeats 4000000 in
/-- A trip of the loop over the inner phases stores the layer. -/
theorem inner9 (X2 : M2.view.ty.Contents (Elt Ideal)) (X8 : M8.view.ty.Contents (Elt Ideal)) {h : Image 32}
    (hX : Holds 8 h (M8.view.read (Elt Ideal) X8)) (k : Fin k0_t5_loop.trips) :
    Agrees (grid 4 (layer 56 h fun t k o => M2.view.read (Elt Ideal) X2 (ix3 t k o)))
      (tripL_k0_t5 (F := Ideal) 𝒱 c bd M0 h0 M1 h1 M2 h2 M3 h3 M4 h4 M5 h5 M6 h6 M7 h7 M8 h8 M9 h9 M10 h10 X2 X8 k) := by
  delta tripL_k0_t5 trip_k0_t5
  dsimp only
  refine Agrees.cons (writes_grid (off10_eq k) fun b I J o => ?_) Agrees.nil
  have hk : k.val < 9 := k.isLt
  have hI := I.isLt
  have hJ := J.isLt
  unfold trip_k0_t5.sl.r_2 trip_k0_t5.sl.r_1 trip_k0_t5.sl.r
  simp only [View.readAt_eq_ld]
  unfold_payloads
  pointwise
  refine layer_of_sums (W := fun t k o => M2.view.read (Elt Ideal) X2 (ix3 t k o)) (by omega) (by omega) (fun x => ?_)
    (fun x => ?_) (fun x => ?_) (fun x => ?_) (fun x => ?_) (fun x => ?_) (fun x => ?_) (fun x => ?_) (fun x => ?_)
  · exact Holds.window (off := k0_off9 k 0#32 0#32) (p := 8 * (2 * (k.val / 3) + 0) + (2 * (k.val % 3) + 0)) (i0 := 0) (I := I.val) (J := J.val) hX (off9_eq k 0 0) b x
      (by omega) (by omega) (by omega) (by omega)
  · exact Holds.window (off := k0_off9 k 0#32 1#32) (p := 8 * (2 * (k.val / 3) + 0) + (2 * (k.val % 3) + 1)) (i0 := 0) (I := I.val) (J := J.val) hX (off9_eq k 0 1) b x
      (by omega) (by omega) (by omega) (by omega)
  · exact Holds.window (off := k0_off9 k 0#32 2#32) (p := 8 * (2 * (k.val / 3) + 0) + (2 * (k.val % 3) + 2)) (i0 := 0) (I := I.val) (J := J.val) hX (off9_eq k 0 2) b x
      (by omega) (by omega) (by omega) (by omega)
  · exact Holds.window (off := k0_off9 k 1#32 0#32) (p := 8 * (2 * (k.val / 3) + 1) + (2 * (k.val % 3) + 0)) (i0 := 0) (I := I.val) (J := J.val) hX (off9_eq k 1 0) b x
      (by omega) (by omega) (by omega) (by omega)
  · exact Holds.window (off := k0_off9 k 1#32 1#32) (p := 8 * (2 * (k.val / 3) + 1) + (2 * (k.val % 3) + 1)) (i0 := 0) (I := I.val) (J := J.val) hX (off9_eq k 1 1) b x
      (by omega) (by omega) (by omega) (by omega)
  · exact Holds.window (off := k0_off9 k 1#32 2#32) (p := 8 * (2 * (k.val / 3) + 1) + (2 * (k.val % 3) + 2)) (i0 := 0) (I := I.val) (J := J.val) hX (off9_eq k 1 2) b x
      (by omega) (by omega) (by omega) (by omega)
  · exact Holds.window (off := k0_off9 k 2#32 0#32) (p := 8 * (2 * (k.val / 3) + 2) + (2 * (k.val % 3) + 0)) (i0 := 0) (I := I.val) (J := J.val) hX (off9_eq k 2 0) b x
      (by omega) (by omega) (by omega) (by omega)
  · exact Holds.window (off := k0_off9 k 2#32 1#32) (p := 8 * (2 * (k.val / 3) + 2) + (2 * (k.val % 3) + 1)) (i0 := 0) (I := I.val) (J := J.val) hX (off9_eq k 2 1) b x
      (by omega) (by omega) (by omega) (by omega)
  · exact Holds.window (off := k0_off9 k 2#32 2#32) (p := 8 * (2 * (k.val / 3) + 2) + (2 * (k.val % 3) + 2)) (i0 := 0) (I := I.val) (J := J.val) hX (off9_eq k 2 2) b x
      (by omega) (by omega) (by omega) (by omega)

/-- It reaches all of its phase's window. -/
theorem inner9_reached (X2 : M2.view.ty.Contents (Elt Ideal)) (X8 : M8.view.ty.Contents (Elt Ideal))
    (k : Fin k0_t5_loop.trips) {p : ℕ} (hoff : k0_off10 k = ![p, 0, 0, 0, 0]) (y : S16x4x16x16x64.Idx) (hy : (y 0).val = p)
    (h2y : (y 2).val < 14) (h3y : (y 3).val < 14) : Reached (tripL_k0_t5 (F := Ideal) 𝒱 c bd M0 h0 M1 h1 M2 h2 M3 h3 M4 h4 M5 h5 M6 h6 M7 h7 M8 h8 M9 h9 M10 h10 X2 X8 k) y := by
  delta tripL_k0_t5 trip_k0_t5
  have m := mem_window (a := 14) (d := 14) (inb := k0_off10_inb k) (y := y) hoff hy (by omega) (by omega) (by omega) (by omega)
  exact Reached.head m

set_option maxHeartbeats 4000000 in
/-- A trip of the loop over the last phase row stores the layer: its lowest taps are read one row of the window down. -/
theorem bottom9 (X2 : M2.view.ty.Contents (Elt Ideal)) (X8 : M8.view.ty.Contents (Elt Ideal)) {h : Image 32}
    (hX : Holds 8 h (M8.view.read (Elt Ideal) X8)) (k : Fin k0_t6_loop.trips) :
    Agrees (grid 4 (layer 56 h fun t k o => M2.view.read (Elt Ideal) X2 (ix3 t k o)))
      (tripL_k0_t6 (F := Ideal) 𝒱 c bd M0 h0 M1 h1 M2 h2 M3 h3 M4 h4 M5 h5 M6 h6 M7 h7 M8 h8 M9 h9 M10 h10 X2 X8 k) := by
  delta tripL_k0_t6 trip_k0_t6
  dsimp only
  refine Agrees.cons (writes_grid (k0_off13_eq k) fun b I J o => ?_) Agrees.nil
  have hk : k.val < 3 := k.isLt
  have hI := I.isLt
  have hJ := J.isLt
  unfold trip_k0_t6.sl.r_5 trip_k0_t6.sl.r_4 trip_k0_t6.sl.r_3 trip_k0_t6.sl.r_2 trip_k0_t6.sl.r_1 trip_k0_t6.sl.r
  simp only [View.readAt_eq_ld]
  unfold_payloads
  pointwise
  refine layer_of_sums (W := fun t k o => M2.view.read (Elt Ideal) X2 (ix3 t k o)) (by omega) (by omega) (fun x => ?_)
    (fun x => ?_) (fun x => ?_) (fun x => ?_) (fun x => ?_) (fun x => ?_) (fun x => ?_) (fun x => ?_) (fun x => ?_)
  · exact Holds.window (off := k0_off11 k 48#32 0#32) (p := 8 * 0 + 2 * k.val + 0 + 48) (i0 := 0) (I := I.val) (J := J.val) hX (k0_off11_eq k 0 0) b x
      (by omega) (by omega) (by omega) (by omega)
  · exact Holds.window (off := k0_off11 k 48#32 1#32) (p := 8 * 0 + 2 * k.val + 1 + 48) (i0 := 0) (I := I.val) (J := J.val) hX (k0_off11_eq k 0 1) b x
      (by omega) (by omega) (by omega) (by omega)
  · exact Holds.window (off := k0_off11 k 48#32 2#32) (p := 8 * 0 + 2 * k.val + 2 + 48) (i0 := 0) (I := I.val) (J := J.val) hX (k0_off11_eq k 0 2) b x
      (by omega) (by omega) (by omega) (by omega)
  · exact Holds.window (off := k0_off11 k 56#32 0#32) (p := 8 * 1 + 2 * k.val + 0 + 48) (i0 := 0) (I := I.val) (J := J.val) hX (k0_off11_eq k 1 0) b x
      (by omega) (by omega) (by omega) (by omega)
  · exact Holds.window (off := k0_off11 k 56#32 1#32) (p := 8 * 1 + 2 * k.val + 1 + 48) (i0 := 0) (I := I.val) (J := J.val) hX (k0_off11_eq k 1 1) b x
      (by omega) (by omega) (by omega) (by omega)
  · exact Holds.window (off := k0_off11 k 56#32 2#32) (p := 8 * 1 + 2 * k.val + 2 + 48) (i0 := 0) (I := I.val) (J := J.val) hX (k0_off11_eq k 1 2) b x
      (by omega) (by omega) (by omega) (by omega)
  · exact Holds.window (off := k0_off12 k 0#32) (p := 2 * k.val + 0) (i0 := 1) (I := I.val) (J := J.val) hX (k0_off12_eq k 0) b x
      (by omega) (by omega) (by omega) (by omega)
  · exact Holds.window (off := k0_off12 k 1#32) (p := 2 * k.val + 1) (i0 := 1) (I := I.val) (J := J.val) hX (k0_off12_eq k 1) b x
      (by omega) (by omega) (by omega) (by omega)
  · exact Holds.window (off := k0_off12 k 2#32) (p := 2 * k.val + 2) (i0 := 1) (I := I.val) (J := J.val) hX (k0_off12_eq k 2) b x
      (by omega) (by omega) (by omega) (by omega)

/-- It reaches all of its phase's window. -/
theorem bottom9_reached (X2 : M2.view.ty.Contents (Elt Ideal)) (X8 : M8.view.ty.Contents (Elt Ideal))
    (k : Fin k0_t6_loop.trips) {p : ℕ} (hoff : k0_off13 k = ![p, 0, 0, 0, 0]) (y : S16x4x16x16x64.Idx) (hy : (y 0).val = p)
    (h2y : (y 2).val < 14) (h3y : (y 3).val < 14) : Reached (tripL_k0_t6 (F := Ideal) 𝒱 c bd M0 h0 M1 h1 M2 h2 M3 h3 M4 h4 M5 h5 M6 h6 M7 h7 M8 h8 M9 h9 M10 h10 X2 X8 k) y := by
  delta tripL_k0_t6 trip_k0_t6
  have m := mem_window (a := 14) (d := 14) (inb := k0_off13_inb k) (y := y) hoff hy (by omega) (by omega) (by omega) (by omega)
  exact Reached.head m

set_option maxHeartbeats 4000000 in
/-- A trip of the loop over the last phase column stores the layer: its rightmost taps are read one column of the window on. -/
theorem right9 (X2 : M2.view.ty.Contents (Elt Ideal)) (X8 : M8.view.ty.Contents (Elt Ideal)) {h : Image 32}
    (hX : Holds 8 h (M8.view.read (Elt Ideal) X8)) (k : Fin k0_t7_loop.trips) :
    Agrees (grid 4 (layer 56 h fun t k o => M2.view.read (Elt Ideal) X2 (ix3 t k o)))
      (tripL_k0_t7 (F := Ideal) 𝒱 c bd M0 h0 M1 h1 M2 h2 M3 h3 M4 h4 M5 h5 M6 h6 M7 h7 M8 h8 M9 h9 M10 h10 X2 X8 k) := by
  delta tripL_k0_t7 trip_k0_t7
  dsimp only
  refine Agrees.cons (writes_grid (k0_off15_eq k) fun b I J o => ?_) Agrees.nil
  have hk : k.val < 3 := k.isLt
  have hI := I.isLt
  have hJ := J.isLt
  unfold trip_k0_t7.sl.r_4 trip_k0_t7.sl.r_3 trip_k0_t7.sl.r_2 trip_k0_t7.sl.r_1 trip_k0_t7.sl.r
  simp only [View.readAt_eq_ld]
  unfold_payloads
  pointwise
  simp only [dif_pos (show J.val < 15 by omega)]
  refine layer_of_sums (W := fun t k o => M2.view.read (Elt Ideal) X2 (ix3 t k o)) (by omega) (by omega) (fun x => ?_)
    (fun x => ?_) (fun x => ?_) (fun x => ?_) (fun x => ?_) (fun x => ?_) (fun x => ?_) (fun x => ?_) (fun x => ?_)
  · exact Holds.window (off := k0_off14 k 0#32 6#32) (p := 8 * (2 * k.val + 0) + 6) (i0 := 0) (I := I.val) (J := J.val) hX ((off14_eq k 0).1) b x
      (by omega) (by omega) (by omega) (by omega)
  · exact Holds.window (off := k0_off14 k 0#32 7#32) (p := 8 * (2 * k.val + 0) + 7) (i0 := 0) (I := I.val) (J := J.val) hX ((off14_eq k 0).2.1) b x
      (by omega) (by omega) (by omega) (by omega)
  · exact Holds.window (off := k0_off14 k 0#32 0#32) (p := 8 * (2 * k.val + 0) + 0) (i0 := 0) (I := I.val) (J := 1 + J.val) hX ((off14_eq k 0).2.2) b x
      (by omega) (by omega) (by omega) (by omega)
  · exact Holds.window (off := k0_off14 k 1#32 6#32) (p := 8 * (2 * k.val + 1) + 6) (i0 := 0) (I := I.val) (J := J.val) hX ((off14_eq k 1).1) b x
      (by omega) (by omega) (by omega) (by omega)
  · exact Holds.window (off := k0_off14 k 1#32 7#32) (p := 8 * (2 * k.val + 1) + 7) (i0 := 0) (I := I.val) (J := J.val) hX ((off14_eq k 1).2.1) b x
      (by omega) (by omega) (by omega) (by omega)
  · exact Holds.window (off := k0_off14 k 1#32 0#32) (p := 8 * (2 * k.val + 1) + 0) (i0 := 0) (I := I.val) (J := 1 + J.val) hX ((off14_eq k 1).2.2) b x
      (by omega) (by omega) (by omega) (by omega)
  · exact Holds.window (off := k0_off14 k 2#32 6#32) (p := 8 * (2 * k.val + 2) + 6) (i0 := 0) (I := I.val) (J := J.val) hX ((off14_eq k 2).1) b x
      (by omega) (by omega) (by omega) (by omega)
  · exact Holds.window (off := k0_off14 k 2#32 7#32) (p := 8 * (2 * k.val + 2) + 7) (i0 := 0) (I := I.val) (J := J.val) hX ((off14_eq k 2).2.1) b x
      (by omega) (by omega) (by omega) (by omega)
  · exact Holds.window (off := k0_off14 k 2#32 0#32) (p := 8 * (2 * k.val + 2) + 0) (i0 := 0) (I := I.val) (J := 1 + J.val) hX ((off14_eq k 2).2.2) b x
      (by omega) (by omega) (by omega) (by omega)

/-- It reaches all of its phase's window. -/
theorem right9_reached (X2 : M2.view.ty.Contents (Elt Ideal)) (X8 : M8.view.ty.Contents (Elt Ideal))
    (k : Fin k0_t7_loop.trips) {p : ℕ} (hoff : k0_off15 k = ![p, 0, 0, 0, 0]) (y : S16x4x16x16x64.Idx) (hy : (y 0).val = p)
    (h2y : (y 2).val < 14) (h3y : (y 3).val < 14) : Reached (tripL_k0_t7 (F := Ideal) 𝒱 c bd M0 h0 M1 h1 M2 h2 M3 h3 M4 h4 M5 h5 M6 h6 M7 h7 M8 h8 M9 h9 M10 h10 X2 X8 k) y := by
  delta tripL_k0_t7 trip_k0_t7
  have m := mem_window (a := 14) (d := 14) (inb := k0_off15_inb k) (y := y) hoff hy (by omega) (by omega) (by omega) (by omega)
  exact Reached.head m

end Cert.KernelIdeal.Body

end
-- ==== Proof.SecondAll.lean ====
/-
  The second scratch buffer as a whole: zeroed rows and columns, the three loops' phases and the last phase. It holds the
  second layer of the image the first scratch buffer holds.
-/
module

public import proofs.«01_k».proof.Proof.Body
public import proofs.«01_k».proof.Proof.First
public import proofs.«01_k».proof.Proof.Second

@[expose] public section

set_option maxRecDepth 16384

noncomputable section

namespace Cert.KernelIdeal.Body

open Cert.KernelIdeal Cert.KernelIdeal.Gen Cert.Math
open Idealize.ShloMosaic Idealize.ShloMosaic.TcCoe Idealize.ShloMosaic.Tactic

variable (c : Dev nD)
  (M0 : Memref sig .tc .vmem S64x4x14x432 .f32) (h0 : M0.IsWhole) (M1 : Memref sig .tc .vmem S27x32 .f32) (h1 : M1.IsWhole)
  (M2 : Memref sig .tc .vmem S9x32x64 .f32) (h2 : M2.IsWhole) (M3 : Memref sig .tc .vmem S9x64x128 .f32) (h3 : M3.IsWhole)
  (M4 : Memref sig .tc .vmem S9x128x128 .f32) (h4 : M4.IsWhole) (M5 : Memref sig .tc .vmem S128x512 .f32) (h5 : M5.IsWhole)
  (M6 : Memref sig .tc .vmem S512x128 .f32) (h6 : M6.IsWhole) (M7 : Memref sig .tc .vmem S4x14x14 .f32) (h7 : M7.IsWhole)
  (M8 : Memref sig .tc .vmem S64x4x16x16x32 .f32) (h8 : M8.IsWhole) (M9 : Memref sig .tc .vmem S16x4x16x16x64 .f32) (h9 : M9.IsWhole)
  (M10 : Memref sig .tc .vmem S4x4x16x16x128 .f32) (h10 : M10.IsWhole)

variable (f0 : M0.view.ty.Contents (Elt Ideal)) (f1 : M1.view.ty.Contents (Elt Ideal)) (f2 : M2.view.ty.Contents (Elt Ideal))
  (f8 : M8.view.ty.Contents (Elt Ideal)) (f9 : M9.view.ty.Contents (Elt Ideal))

set_option maxHeartbeats 4000000 in
/-- The pieces of the second scratch buffer store the second layer. -/
theorem agrees9 {h : Image 32}
    (hX : Holds 8 h (M8.view.read (Elt Ideal) (M8.view.writes (Elt Ideal) f8 (pieces8 Variants.none c none M0 h0 M1 h1 M2 h2 M3 h3 M4 h4 M5 h5 M6 h6 M7 h7 M8 h8 M9 h9 M10 h10 f0 f1)))) :
    Agrees (grid 4 (layer 56 h fun t k o => M2.view.read (Elt Ideal) f2 (ix3 t k o)))
      (bodyRun.sl.H9_1 (F := Ideal) c M0 h0 M1 h1 M2 h2 M3 h3 M4 h4 M5 h5 M6 h6 M7 h7 M8 h8 M9 h9 M10 h10 f0 f1 f2 f8) := by
  have hz := layer_zeroFrom (n := 56) h fun t k o => M2.view.read (Elt Ideal) f2 (ix3 t k o)
  unfold pieces8 at hX
  unfold bodyRun.sl.H9_1
  refine Agrees.cons (writes_grid (p := 15) (i0 := 0) (j0 := 0) rfl fun b I J o => ?_) (Agrees.append ?_ (Agrees.append ?_
    (Agrees.append ?_ ?_)))
  · have hI := I.isLt
    have hJ := J.isLt
    unfold bodyRun.sl.r_4 bodyRun.sl.r_5 bodyRun.sl.r_6 bodyRun.sl.r_1 bodyRun.sl.r_2 bodyRun.sl.r_3 bodyRun.sl.r
    unfold bodyRun.sl.v9 bodyRun.sl.v14 bodyRun.sl.v20 bodyRun.sl.v29 bodyRun.sl.v35 bodyRun.sl.v41 bodyRun.sl.v50 bodyRun.sl.v56
      bodyRun.sl.v62
    generalize M8.view.writes (Elt Ideal) f8 (_ ++ _) = X8 at hX ⊢
    simp only [View.readAt_eq_ld]
    unfold_payloads
    pointwise
    simp only [dif_pos (show J.val < 15 by omega)]
    refine layer_of_sums (W := fun t k o => M2.view.read (Elt Ideal) f2 (ix3 t k o)) (by omega) (by omega) (fun x => ?_)
      (fun x => ?_) (fun x => ?_) (fun x => ?_) (fun x => ?_) (fun x => ?_) (fun x => ?_) (fun x => ?_) (fun x => ?_)
    all_goals refine hX.at _ _ _ _ _ ?_ ?_ ?_ ?_
    all_goals simp only [Fin.coe_ofNat_eq_mod, Nat.reduceMod, Nat.reduceDiv]
    all_goals omega
  · exact Agrees.trips _ _ rfl (fun k => pb_k0_t7_succ (F := Ideal) Variants.none c none M0 h0 M1 h1 M2 h2 M3 h3 M4 h4 M5 h5 M6 h6 M7 h7 M8 h8 M9 h9 M10 h10 f2 _ k) (fun k => right9 _ c _ M0 h0 M1 h1 M2 h2 M3 h3 M4 h4 M5 h5 M6 h6 M7 h7 M8 h8 M9 h9 M10 h10 f2 _ hX k)
  · exact Agrees.trips _ _ rfl (fun k => pb_k0_t6_succ (F := Ideal) Variants.none c none M0 h0 M1 h1 M2 h2 M3 h3 M4 h4 M5 h5 M6 h6 M7 h7 M8 h8 M9 h9 M10 h10 f2 _ k) (fun k => bottom9 _ c _ M0 h0 M1 h1 M2 h2 M3 h3 M4 h4 M5 h5 M6 h6 M7 h7 M8 h8 M9 h9 M10 h10 f2 _ hX k)
  · exact Agrees.trips _ _ rfl (fun k => pb_k0_t5_succ (F := Ideal) Variants.none c none M0 h0 M1 h1 M2 h2 M3 h3 M4 h4 M5 h5 M6 h6 M7 h7 M8 h8 M9 h9 M10 h10 f2 _ k) (fun k => inner9 _ c _ M0 h0 M1 h1 M2 h2 M3 h3 M4 h4 M5 h5 M6 h6 M7 h7 M8 h8 M9 h9 M10 h10 f2 _ hX k)
  · exact Agrees.trips _ _ rfl (fun k => pb_k0_t2_succ (F := Ideal) Variants.none c none M0 h0 M1 h1 M2 h2 M3 h3 M4 h4 M5 h5 M6 h6 M7 h7 M8 h8 M9 h9 M10 h10 k) (fun k => (pad9 _ c _ M0 h0 M1 h1 M2 h2 M3 h3 M4 h4 M5 h5 M6 h6 M7 h7 M8 h8 M9 h9 M10 h10 hz k).1)

/-- They reach its first 15 rows and columns. -/
theorem reached9 (y : S16x4x16x16x64.Idx) (h2y : (y 2).val ≤ 14) (h3y : (y 3).val ≤ 14) :
    Reached (bodyRun.sl.H9_1 (F := Ideal) c M0 h0 M1 h1 M2 h2 M3 h3 M4 h4 M5 h5 M6 h6 M7 h7 M8 h8 M9 h9 M10 h10 f0 f1 f2 f8) y := by
  unfold bodyRun.sl.H9_1
  have hp : (y 0).val < 16 := (y 0).isLt
  by_cases hy : (y 2).val = 14 ∨ (y 3).val = 14
  · exact (Reached.right (Reached.right (Reached.right (Reached.trips _ _ rfl (fun k => pb_k0_t2_succ (F := Ideal) Variants.none c none M0 h0 M1 h1 M2 h2 M3 h3 M4 h4 M5 h5 M6 h6 M7 h7 M8 h8 M9 h9 M10 h10 k)
      ⟨(y 0).val, hp⟩ ((pad9 Variants.none c none M0 h0 M1 h1 M2 h2 M3 h3 M4 h4 M5 h5 M6 h6 M7 h7 M8 h8 M9 h9 M10 h10 (h := fun _ _ _ _ => 0) (fun _ _ _ _ _ => rfl)
        ⟨(y 0).val, hp⟩).2 y rfl hy))))).tail
  · have h2y : (y 2).val < 14 := by omega
    have h3y : (y 3).val < 14 := by omega
    by_cases hl : (y 0).val = 15
    · have m := mem_window (a := 14) (d := 14) (inb := inb_S16x4x16x16x64_S1x4x14x14x64_15_0_0_0_0) (y := y) (p := 15)
        (i0 := 0) (j0 := 0) rfl hl (by omega) (by omega) (by omega) (by omega)
      exact Reached.head m
    refine Reached.tail ?_
    by_cases hc : (y 0).val % 4 = 3
    · have hk : (y 0).val / 4 < 3 := by omega
      exact Reached.left (Reached.trips _ _ rfl (fun k => pb_k0_t7_succ (F := Ideal) Variants.none c none M0 h0 M1 h1 M2 h2 M3 h3 M4 h4 M5 h5 M6 h6 M7 h7 M8 h8 M9 h9 M10 h10 f2 _ k) ⟨(y 0).val / 4, hk⟩
        (right9_reached Variants.none c none M0 h0 M1 h1 M2 h2 M3 h3 M4 h4 M5 h5 M6 h6 M7 h7 M8 h8 M9 h9 M10 h10 f2 _ ⟨(y 0).val / 4, hk⟩ (k0_off15_eq ⟨(y 0).val / 4, hk⟩) y
          (show (y 0).val = 4 * ((y 0).val / 4) + 3 by omega) h2y h3y))
    refine Reached.right ?_
    by_cases hr : 12 ≤ (y 0).val
    · have hk : (y 0).val - 12 < 3 := by omega
      exact Reached.left (Reached.trips _ _ rfl (fun k => pb_k0_t6_succ (F := Ideal) Variants.none c none M0 h0 M1 h1 M2 h2 M3 h3 M4 h4 M5 h5 M6 h6 M7 h7 M8 h8 M9 h9 M10 h10 f2 _ k) ⟨(y 0).val - 12, hk⟩
        (bottom9_reached Variants.none c none M0 h0 M1 h1 M2 h2 M3 h3 M4 h4 M5 h5 M6 h6 M7 h7 M8 h8 M9 h9 M10 h10 f2 _ ⟨(y 0).val - 12, hk⟩ (k0_off13_eq ⟨(y 0).val - 12, hk⟩) y
          (show (y 0).val = (y 0).val - 12 + 12 by omega) h2y h3y))
    refine Reached.right ?_
    have hk : 3 * ((y 0).val / 4) + (y 0).val % 4 < 9 := by omega
    exact Reached.left (Reached.trips _ _ rfl (fun k => pb_k0_t5_succ (F := Ideal) Variants.none c none M0 h0 M1 h1 M2 h2 M3 h3 M4 h4 M5 h5 M6 h6 M7 h7 M8 h8 M9 h9 M10 h10 f2 _ k) ⟨3 * ((y 0).val / 4) + (y 0).val % 4, hk⟩
      (inner9_reached Variants.none c none M0 h0 M1 h1 M2 h2 M3 h3 M4 h4 M5 h5 M6 h6 M7 h7 M8 h8 M9 h9 M10 h10 f2 _ ⟨3 * ((y 0).val / 4) + (y 0).val % 4, hk⟩
        (off10_eq ⟨3 * ((y 0).val / 4) + (y 0).val % 4, hk⟩) y
        (show (y 0).val = 4 * ((3 * ((y 0).val / 4) + (y 0).val % 4) / 3) + (3 * ((y 0).val / 4) + (y 0).val % 4) % 3 by omega)
        h2y h3y))

/-- After its stores the second scratch buffer holds the second layer. -/
theorem holds9 {h : Image 32}
    (hX : Holds 8 h (M8.view.read (Elt Ideal) (M8.view.writes (Elt Ideal) f8 (pieces8 Variants.none c none M0 h0 M1 h1 M2 h2 M3 h3 M4 h4 M5 h5 M6 h6 M7 h7 M8 h8 M9 h9 M10 h10 f0 f1)))) :
    Holds 4 (layer 56 h fun t k o => M2.view.read (Elt Ideal) f2 (ix3 t k o))
      (M9.view.read (Elt Ideal) (M9.view.writes (Elt Ideal) f9 (bodyRun.sl.H9_1 (F := Ideal) c M0 h0 M1 h1 M2 h2 M3 h3 M4 h4 M5 h5 M6 h6 M7 h7 M8 h8 M9 h9 M10 h10 f0 f1 f2 f8))) :=
  holds_of_pieces M9.view f9 (agrees9 c M0 h0 M1 h1 M2 h2 M3 h3 M4 h4 M5 h5 M6 h6 M7 h7 M8 h8 M9 h9 M10 h10 f0 f1 f2 f8 hX) (reached9 c M0 h0 M1 h1 M2 h2 M3 h3 M4 h4 M5 h5 M6 h6 M7 h7 M8 h8 M9 h9 M10 h10 f0 f1 f2 f8)

end Cert.KernelIdeal.Body

end
-- ==== Proof.Third.lean ====
/-
  The third scratch buffer: its four phases each store the third layer, of the image the second scratch buffer holds.
-/
module

public import proofs.«01_k».proof.Proof.Body
public import proofs.«01_k».proof.Proof.SecondAll

@[expose] public section

set_option maxRecDepth 16384

noncomputable section

namespace Cert.KernelIdeal.Body

open Cert.KernelIdeal Cert.KernelIdeal.Gen Cert.Math
open Idealize.ShloMosaic Idealize.ShloMosaic.TcCoe Idealize.ShloMosaic.Tactic

variable (c : Dev nD)
  (M0 : Memref sig .tc .vmem S64x4x14x432 .f32) (h0 : M0.IsWhole) (M1 : Memref sig .tc .vmem S27x32 .f32) (h1 : M1.IsWhole)
  (M2 : Memref sig .tc .vmem S9x32x64 .f32) (h2 : M2.IsWhole) (M3 : Memref sig .tc .vmem S9x64x128 .f32) (h3 : M3.IsWhole)
  (M4 : Memref sig .tc .vmem S9x128x128 .f32) (h4 : M4.IsWhole) (M5 : Memref sig .tc .vmem S128x512 .f32) (h5 : M5.IsWhole)
  (M6 : Memref sig .tc .vmem S512x128 .f32) (h6 : M6.IsWhole) (M7 : Memref sig .tc .vmem S4x14x14 .f32) (h7 : M7.IsWhole)
  (M8 : Memref sig .tc .vmem S64x4x16x16x32 .f32) (h8 : M8.IsWhole) (M9 : Memref sig .tc .vmem S16x4x16x16x64 .f32) (h9 : M9.IsWhole)
  (M10 : Memref sig .tc .vmem S4x4x16x16x128 .f32) (h10 : M10.IsWhole)

variable (f0 : M0.view.ty.Contents (Elt Ideal)) (f1 : M1.view.ty.Contents (Elt Ideal)) (f2 : M2.view.ty.Contents (Elt Ideal))
  (f3 : M3.view.ty.Contents (Elt Ideal)) (f8 : M8.view.ty.Contents (Elt Ideal)) (f9 : M9.view.ty.Contents (Elt Ideal))
  (f10 : M10.view.ty.Contents (Elt Ideal))

/-- Where the first phase is written. -/
theorem off17_eq : k0_off17 = ![0, 0, 0, 0, 0] := by decide +kernel

set_option maxHeartbeats 8000000 in
/-- The pieces of the third scratch buffer store the third layer. -/
theorem agrees10 {h : Image 64}
    (hX : Holds 4 h (M9.view.read (Elt Ideal) (M9.view.writes (Elt Ideal) f9 (bodyRun.sl.H9_1 c M0 h0 M1 h1 M2 h2 M3 h3 M4 h4 M5 h5 M6 h6 M7 h7 M8 h8 M9 h9 M10 h10 f0 f1 f2 f8)))) :
    Agrees (grid 2 (layer 28 h fun t k o => M3.view.read (Elt Ideal) f3 (ix3 t k o)))
      (bodyRun.sl.H10_4 (F := Ideal) c M0 h0 M1 h1 M2 h2 M3 h3 M4 h4 M5 h5 M6 h6 M7 h7 M8 h8 M9 h9 M10 h10 f0 f1 f2 f3 f8 f9) := by
  have hz := layer_zeroFrom (n := 28) h fun t k o => M3.view.read (Elt Ideal) f3 (ix3 t k o)
  unfold bodyRun.sl.H10_4
  refine Agrees.cons (writes_grid (p := 3) (i0 := 0) (j0 := 0) rfl fun b I J o => ?_)
    (Agrees.cons (writes_grid k0_off22_eq fun b I J o => ?_)
    (Agrees.cons (writes_grid k0_off20_eq fun b I J o => ?_)
    (Agrees.cons (writes_grid off17_eq fun b I J o => ?_) ?_)))
  · have hI := I.isLt
    have hJ := J.isLt
    simp only [bodyRun.sl.cst_377, bodyRun.sl.r_26, bodyRun.sl.r_25, bodyRun.sl.r_24, bodyRun.sl.r_23, bodyRun.sl.r_22, bodyRun.sl.r_21, bodyRun.sl.r_20, bodyRun.sl.r_19, bodyRun.sl.r_18, bodyRun.sl.r_17, bodyRun.sl.r_16, bodyRun.sl.r_15, bodyRun.sl.r_14, bodyRun.sl.r_13, bodyRun.sl.r_12, bodyRun.sl.r_11, bodyRun.sl.r_10, bodyRun.sl.r_9, bodyRun.sl.r_8, bodyRun.sl.r_7, bodyRun.sl.v442, bodyRun.sl.v447, bodyRun.sl.v453, bodyRun.sl.v462, bodyRun.sl.v468, bodyRun.sl.v474, bodyRun.sl.v483, bodyRun.sl.v489, bodyRun.sl.v495]
    generalize M9.view.writes (Elt Ideal) f9 (bodyRun.sl.H9_1 c M0 h0 M1 h1 M2 h2 M3 h3 M4 h4 M5 h5 M6 h6 M7 h7 M8 h8 M9 h9 M10 h10 f0 f1 f2 f8) = X9 at hX ⊢
    simp only [View.readAt_eq_ld]
    unfold_payloads
    pointwise
    simp only [dif_pos (show J.val < 15 by omega)]
    refine layer_of_sums (W := fun t k o => M3.view.read (Elt Ideal) f3 (ix3 t k o)) (by omega) (by omega) (fun x => ?_)
      (fun x => ?_) (fun x => ?_) (fun x => ?_) (fun x => ?_) (fun x => ?_) (fun x => ?_) (fun x => ?_) (fun x => ?_)
    all_goals refine hX.at _ _ _ _ _ ?_ ?_ ?_ ?_
    all_goals simp only [Fin.coe_ofNat_eq_mod, Nat.reduceMod, Nat.reduceDiv]
    all_goals omega
  · have hI := I.isLt
    have hJ := J.isLt
    simp only [bodyRun.sl.cst_377, bodyRun.sl.r_26, bodyRun.sl.r_25, bodyRun.sl.r_24, bodyRun.sl.r_23, bodyRun.sl.r_22, bodyRun.sl.r_21, bodyRun.sl.r_20, bodyRun.sl.r_19, bodyRun.sl.r_18, bodyRun.sl.r_17, bodyRun.sl.r_16, bodyRun.sl.r_15, bodyRun.sl.r_14, bodyRun.sl.r_13, bodyRun.sl.r_12, bodyRun.sl.r_11, bodyRun.sl.r_10, bodyRun.sl.r_9, bodyRun.sl.r_8, bodyRun.sl.r_7, bodyRun.sl.v341, bodyRun.sl.v349, bodyRun.sl.v358, bodyRun.sl.v373, bodyRun.sl.v382, bodyRun.sl.v391, bodyRun.sl.v406, bodyRun.sl.v415, bodyRun.sl.v424]
    generalize M9.view.writes (Elt Ideal) f9 (bodyRun.sl.H9_1 c M0 h0 M1 h1 M2 h2 M3 h3 M4 h4 M5 h5 M6 h6 M7 h7 M8 h8 M9 h9 M10 h10 f0 f1 f2 f8) = X9 at hX ⊢
    simp only [View.readAt_eq_ld]
    unfold_payloads
    pointwise
    simp only [dif_pos (show J.val < 15 by omega)]
    refine layer_of_sums (W := fun t k o => M3.view.read (Elt Ideal) f3 (ix3 t k o)) (by omega) (by omega) (fun x => ?_)
      (fun x => ?_) (fun x => ?_) (fun x => ?_) (fun x => ?_) (fun x => ?_) (fun x => ?_) (fun x => ?_) (fun x => ?_)
    all_goals refine hX.at _ _ _ _ _ ?_ ?_ ?_ ?_
    all_goals simp only [Fin.coe_ofNat_eq_mod, Nat.reduceMod, Nat.reduceDiv]
    all_goals omega
  · have hI := I.isLt
    have hJ := J.isLt
    simp only [bodyRun.sl.cst_377, bodyRun.sl.r_26, bodyRun.sl.r_25, bodyRun.sl.r_24, bodyRun.sl.r_23, bodyRun.sl.r_22, bodyRun.sl.r_21, bodyRun.sl.r_20, bodyRun.sl.r_19, bodyRun.sl.r_18, bodyRun.sl.r_17, bodyRun.sl.r_16, bodyRun.sl.r_15, bodyRun.sl.r_14, bodyRun.sl.r_13, bodyRun.sl.r_12, bodyRun.sl.r_11, bodyRun.sl.r_10, bodyRun.sl.r_9, bodyRun.sl.r_8, bodyRun.sl.r_7, bodyRun.sl.v234, bodyRun.sl.v244, bodyRun.sl.v255, bodyRun.sl.v266, bodyRun.sl.v277, bodyRun.sl.v288, bodyRun.sl.v299, bodyRun.sl.v310, bodyRun.sl.v321]
    generalize M9.view.writes (Elt Ideal) f9 (bodyRun.sl.H9_1 c M0 h0 M1 h1 M2 h2 M3 h3 M4 h4 M5 h5 M6 h6 M7 h7 M8 h8 M9 h9 M10 h10 f0 f1 f2 f8) = X9 at hX ⊢
    simp only [View.readAt_eq_ld]
    unfold_payloads
    pointwise
    refine layer_of_sums (W := fun t k o => M3.view.read (Elt Ideal) f3 (ix3 t k o)) (by omega) (by omega) (fun x => ?_)
      (fun x => ?_) (fun x => ?_) (fun x => ?_) (fun x => ?_) (fun x => ?_) (fun x => ?_) (fun x => ?_) (fun x => ?_)
    all_goals refine hX.at _ _ _ _ _ ?_ ?_ ?_ ?_
    all_goals simp only [Fin.coe_ofNat_eq_mod, Nat.reduceMod, Nat.reduceDiv]
    all_goals omega
  · have hI := I.isLt
    have hJ := J.isLt
    simp only [bodyRun.sl.cst_377, bodyRun.sl.r_26, bodyRun.sl.r_25, bodyRun.sl.r_24, bodyRun.sl.r_23, bodyRun.sl.r_22, bodyRun.sl.r_21, bodyRun.sl.r_20, bodyRun.sl.r_19, bodyRun.sl.r_18, bodyRun.sl.r_17, bodyRun.sl.r_16, bodyRun.sl.r_15, bodyRun.sl.r_14, bodyRun.sl.r_13, bodyRun.sl.r_12, bodyRun.sl.r_11, bodyRun.sl.r_10, bodyRun.sl.r_9, bodyRun.sl.r_8, bodyRun.sl.r_7, bodyRun.sl.v113, bodyRun.sl.v124, bodyRun.sl.v136, bodyRun.sl.v151, bodyRun.sl.v163, bodyRun.sl.v175, bodyRun.sl.v190, bodyRun.sl.v202, bodyRun.sl.v214]
    generalize M9.view.writes (Elt Ideal) f9 (bodyRun.sl.H9_1 c M0 h0 M1 h1 M2 h2 M3 h3 M4 h4 M5 h5 M6 h6 M7 h7 M8 h8 M9 h9 M10 h10 f0 f1 f2 f8) = X9 at hX ⊢
    simp only [View.readAt_eq_ld]
    unfold_payloads
    pointwise
    refine layer_of_sums (W := fun t k o => M3.view.read (Elt Ideal) f3 (ix3 t k o)) (by omega) (by omega) (fun x => ?_)
      (fun x => ?_) (fun x => ?_) (fun x => ?_) (fun x => ?_) (fun x => ?_) (fun x => ?_) (fun x => ?_) (fun x => ?_)
    all_goals refine hX.at _ _ _ _ _ ?_ ?_ ?_ ?_
    all_goals simp only [Fin.coe_ofNat_eq_mod, Nat.reduceMod, Nat.reduceDiv]
    all_goals omega
  · exact Agrees.trips _ _ rfl (fun k => pb_k0_t3_succ (F := Ideal) Variants.none c none M0 h0 M1 h1 M2 h2 M3 h3 M4 h4 M5 h5 M6 h6 M7 h7 M8 h8 M9 h9 M10 h10 k) (fun k => (pad10 _ c _ M0 h0 M1 h1 M2 h2 M3 h3 M4 h4 M5 h5 M6 h6 M7 h7 M8 h8 M9 h9 M10 h10 hz k).1)

/-- They reach its first 15 rows and columns. -/
theorem reached10 (y : S4x4x16x16x128.Idx) (h2y : (y 2).val ≤ 14) (h3y : (y 3).val ≤ 14) :
    Reached (bodyRun.sl.H10_4 (F := Ideal) c M0 h0 M1 h1 M2 h2 M3 h3 M4 h4 M5 h5 M6 h6 M7 h7 M8 h8 M9 h9 M10 h10 f0 f1 f2 f3 f8 f9) y := by
  unfold bodyRun.sl.H10_4
  have hp : (y 0).val < 4 := (y 0).isLt
  by_cases hy : (y 2).val = 14 ∨ (y 3).val = 14
  · exact (Reached.trips _ _ rfl (fun k => pb_k0_t3_succ (F := Ideal) Variants.none c none M0 h0 M1 h1 M2 h2 M3 h3 M4 h4 M5 h5 M6 h6 M7 h7 M8 h8 M9 h9 M10 h10 k)
      ⟨(y 0).val, hp⟩ ((pad10 Variants.none c none M0 h0 M1 h1 M2 h2 M3 h3 M4 h4 M5 h5 M6 h6 M7 h7 M8 h8 M9 h9 M10 h10 (h := fun _ _ _ _ => 0) (fun _ _ _ _ _ => rfl)
        ⟨(y 0).val, hp⟩).2 y rfl hy)).tail.tail.tail.tail
  · have h2y : (y 2).val < 14 := by omega
    have h3y : (y 3).val < 14 := by omega
    have cases4 : (y 0).val = 0 ∨ (y 0).val = 1 ∨ (y 0).val = 2 ∨ (y 0).val = 3 := by omega
    rcases cases4 with hk | hk | hk | hk
    · have m := mem_window (a := 14) (d := 14) (inb := k0_off17_inb) (y := y) off17_eq hk (by omega) (by omega) (by omega)
        (by omega)
      exact (Reached.head m).tail.tail.tail
    · have m := mem_window (a := 14) (d := 14) (inb := k0_off22_inb) (y := y) k0_off22_eq hk (by omega) (by omega)
        (by omega) (by omega)
      exact (Reached.head m).tail
    · have m := mem_window (a := 14) (d := 14) (inb := k0_off20_inb) (y := y) k0_off20_eq hk (by omega) (by omega)
        (by omega) (by omega)
      exact (Reached.head m).tail.tail
    · have m := mem_window (a := 14) (d := 14) (inb := inb_S4x4x16x16x128_S1x4x14x14x128_3_0_0_0_0) (y := y) (p := 3)
        (i0 := 0) (j0 := 0) rfl hk (by omega) (by omega) (by omega) (by omega)
      exact Reached.head m

/-- After its stores the third scratch buffer holds the third layer. -/
theorem holds10 {h : Image 64}
    (hX : Holds 4 h (M9.view.read (Elt Ideal) (M9.view.writes (Elt Ideal) f9 (bodyRun.sl.H9_1 c M0 h0 M1 h1 M2 h2 M3 h3 M4 h4 M5 h5 M6 h6 M7 h7 M8 h8 M9 h9 M10 h10 f0 f1 f2 f8)))) :
    Holds 2 (layer 28 h fun t k o => M3.view.read (Elt Ideal) f3 (ix3 t k o))
      (M10.view.read (Elt Ideal) (M10.view.writes (Elt Ideal) f10 (bodyRun.sl.H10_4 (F := Ideal) c M0 h0 M1 h1 M2 h2 M3 h3 M4 h4 M5 h5 M6 h6 M7 h7 M8 h8 M9 h9 M10 h10 f0 f1 f2 f3 f8 f9))) :=
  holds_of_pieces M10.view f10 (agrees10 c M0 h0 M1 h1 M2 h2 M3 h3 M4 h4 M5 h5 M6 h6 M7 h7 M8 h8 M9 h9 M10 h10 f0 f1 f2 f3 f8 f9 hX) (reached10 c M0 h0 M1 h1 M2 h2 M3 h3 M4 h4 M5 h5 M6 h6 M7 h7 M8 h8 M9 h9 M10 h10 f0 f1 f2 f3 f8 f9)

end Cert.KernelIdeal.Body

end
-- ==== Proof.Nearest.lean ====
/-
  The nearest key. A query is compared with 512 keys by the sum of the squared differences; the kernel ranks the keys by
  the scalar product less half the key's square instead. The two orders are opposite for every finite query, whatever the
  keys: for a finite key by expanding the square, and a key with an infinite entry comes last in both.
-/
module

public import Idealize.ShloMosaic.Lib.Pointwise
public import Idealize.ShloMosaic.Lib.PlanTiles.Rows
public import Idealize.ShloMosaic.Lib.SortFacts

@[expose] public section

noncomputable section

namespace Cert.Math

open Idealize.ShloMosaic

/-- `i` is the first place where `f` is largest. -/
def FirstMax {n : ℕ} (f : Fin n → EReal) (i : Fin n) : Prop := (∀ j, f j ≤ f i) ∧ ∀ j < i, f j < f i

theorem exists_firstMax {n : ℕ} (hn : 0 < n) (f : Fin n → EReal) : ∃ i, FirstMax f i := by
  haveI : Nonempty (Fin n) := ⟨⟨0, hn⟩⟩
  obtain ⟨m, hm⟩ := Finite.exists_max f
  let s : Finset (Fin n) := Finset.univ.filter fun j => f j = f m
  have hs : s.Nonempty := ⟨m, by simp [s]⟩
  have hi : f (s.min' hs) = f m := by
    have := s.min'_mem hs
    simpa [s] using this
  refine ⟨s.min' hs, fun j => (hm j).trans hi.ge, fun j hj => ?_⟩
  rw [hi]
  refine lt_of_le_of_ne (hm j) fun e => ?_
  exact absurd (s.min'_le j (by simp [s, e])) (not_le.mpr hj)

theorem FirstMax.unique {n : ℕ} {f : Fin n → EReal} {i j : Fin n} (hi : FirstMax f i) (hj : FirstMax f j) : i = j := by
  rcases lt_trichotomy i j with h | h | h
  · exact absurd (hi.1 j) (not_le.mpr (hj.2 i h))
  · exact h
  · exact absurd (hj.1 i) (not_le.mpr (hi.2 j h))

/-- The first place of the largest is the same in functions that order the places alike. -/
theorem FirstMax.congr {n : ℕ} {f g : Fin n → EReal} {i : Fin n} (hfg : ∀ a b, f a < f b ↔ g a < g b)
    (h : FirstMax f i) : FirstMax g i :=
  ⟨fun j => not_lt.mp fun hlt => absurd (h.1 j) (not_le.mpr ((hfg i j).mpr hlt)), fun j hj => (hfg j i).mp (h.2 j hj)⟩

/-- The largest, as the fold of the maximum from below. -/
theorem fold_max_firstMax {n : ℕ} {f : Fin n → EReal} {i : Fin n} (h : FirstMax f i) :
    Finset.univ.fold max ⊥ f = f i :=
  le_antisymm ((Finset.fold_max_le _).mpr ⟨bot_le, fun j _ => h.1 j⟩)
    ((Finset.le_fold_max _).mpr (Or.inr ⟨i, Finset.mem_univ i, le_rfl⟩))

/-- The fold of the signed minimum, on words of small numbers. -/
theorem fold_minsi {ι : Type} [DecidableEq ι] (s : Finset ι) (g : ι → ℕ) (b : ℕ) (hb : b < 2 ^ 31) (hg : ∀ x, g x < 2 ^ 31) :
    s.fold IntOp.minsi (BitVec.ofNat 32 b) (fun x => BitVec.ofNat 32 (g x)) = BitVec.ofNat 32 (s.fold min b g) := by
  induction s using Finset.induction_on with
  | empty => rfl
  | insert a s ha ih =>
    have hs : s.fold min b g < 2 ^ 31 := lt_of_le_of_lt (Finset.fold_min_le b |>.mpr (Or.inl le_rfl)) hb
    rw [Finset.fold_insert ha, Finset.fold_insert ha, ih, PlanTiles.minsi_word (hg a) hs, min_comm]

/-- The smallest place where `f` is its largest, as the kernel finds it. -/
theorem fold_minsi_firstMax {f : Fin 512 → EReal} {i : Fin 512} (h : FirstMax f i) :
    Finset.univ.fold IntOp.minsi 2147483647#32 (fun x : Fin 512 => if f x = f i then BitVec.ofNat 32 x.val else 512#32)
      = BitVec.ofNat 32 i.val := by
  have e : (fun x : Fin 512 => if f x = f i then BitVec.ofNat 32 x.val else 512#32)
      = fun x : Fin 512 => BitVec.ofNat 32 (if f x = f i then x.val else 512) := by
    funext x
    split <;> rfl
  rw [e, show (2147483647#32) = BitVec.ofNat 32 2147483647 from rfl,
    fold_minsi Finset.univ (fun x : Fin 512 => if f x = f i then x.val else 512) 2147483647 (by decide)
      (fun x => by split <;> [exact lt_trans x.isLt (by decide); decide])]
  congr 1
  refine le_antisymm (Finset.fold_min_le _ |>.mpr (Or.inr ⟨i, Finset.mem_univ i, by rw [if_pos rfl]⟩)) ?_
  refine (Finset.le_fold_min _).mpr ⟨by have := i.isLt; omega, fun x _ => ?_⟩
  split
  · rename_i hx
    by_contra hlt
    exact absurd hx (ne_of_lt (h.2 x (Fin.lt_def.mpr (not_le.mp hlt))))
  · exact i.isLt.le

/-- Whether a place's word is that of another place. -/
theorem cmpi_place (x i : Fin 512) :
    IntOp.cmpi .eq (BitVec.ofNat 32 x.val) (BitVec.ofNat 32 i.val) = if x = i then 1#1 else 0#1 := by
  have hx := x.isLt
  have hi := i.isLt
  by_cases h : x = i
  · subst h
    simp [IntOp.cmpi]
  · have h' : x.val ≠ i.val := fun e => h (Fin.ext e)
    have hne : BitVec.ofNat 32 x.val ≠ BitVec.ofNat 32 i.val := fun e => h' (by
      have := congrArg BitVec.toNat e
      rwa [BitVec.toNat_ofNat, BitVec.toNat_ofNat, Nat.mod_eq_of_lt (by omega), Nat.mod_eq_of_lt (by omega)] at this)
    rw [if_neg h]
    show BitVec.ofBool (BitVec.ofNat 32 x.val == BitVec.ofNat 32 i.val) = 0#1
    rw [beq_eq_false_iff_ne.mpr hne]
    rfl

/-- A place's word, read as an integer, is the place. -/
theorem place_toInt (x : Fin 512) : (BitVec.ofNat 32 x.val).toInt = x.val := by
  have hx := x.isLt
  have e : (BitVec.ofNat 32 x.val).toNat = x.val := by rw [BitVec.toNat_ofNat, Nat.mod_eq_of_lt (by omega)]
  rw [BitVec.toInt_eq_toNat_of_lt (by rw [e]; omega), e]

/-- A place that does not come before another has no smaller word. -/
theorem slt_place {x i : Fin 512} (h : ¬ x < i) : IntOp.cmpi .slt (BitVec.ofNat 32 x.val) (BitVec.ofNat 32 i.val) = 0#1 := by
  have hx := x.isLt
  have hi := i.isLt
  have h' : ¬ x.val < i.val := h
  show BitVec.ofBool (BitVec.slt (BitVec.ofNat 32 x.val) (BitVec.ofNat 32 i.val)) = 0#1
  rw [BitVec.slt, place_toInt, place_toInt, decide_eq_false (by omega)]
  rfl

/-- A place's word is not negative, … -/
theorem place_slt_zero (x : Fin 512) : IntOp.cmpi .slt (BitVec.ofNat 32 x.val) 0#32 = 0#1 := by
  show BitVec.ofBool (BitVec.slt (BitVec.ofNat 32 x.val) 0#32) = 0#1
  rw [BitVec.slt, place_toInt, decide_eq_false (by show ¬ (x.val : ℤ) < 0; omega)]
  rfl

theorem place_sge_zero (x : Fin 512) : IntOp.cmpi .sge (BitVec.ofNat 32 x.val) 0#32 = 1#1 := by
  show BitVec.ofBool (BitVec.sle 0#32 (BitVec.ofNat 32 x.val)) = 1#1
  rw [BitVec.sle, place_toInt, decide_eq_true (by show (0 : ℤ) ≤ (x.val : ℤ); omega)]
  rfl

/-- … and at most 511. -/
theorem place_sle_last (x : Fin 512) : IntOp.cmpi .sle (BitVec.ofNat 32 x.val) 511#32 = 1#1 := by
  have hx := x.isLt
  show BitVec.ofBool (BitVec.sle (BitVec.ofNat 32 x.val) 511#32) = 1#1
  rw [BitVec.sle, place_toInt, decide_eq_true (by show (x.val : ℤ) ≤ 511; omega)]
  rfl

/-- The one-hot row of a place. -/
theorem one_hot (x i : Fin 512) :
    (FloatOps.sitofp .f32 (BitVec.setWidth 32 (IntOp.cmpi .eq (BitVec.ofNat 32 x.val) (BitVec.ofNat 32 i.val))) : Ideal .f32)
      = if x = i then (1 : EReal) else 0 := by
  rw [cmpi_place]
  split
  · show (((1 : ℤ) : ℝ) : EReal) = 1
    norm_num
  · show (((0 : ℤ) : ℝ) : EReal) = 0
    norm_num

/-- A product with a one-hot row picks one row. -/
theorem sum_one_hot (i : Fin 512) (v : Fin 512 → EReal) : (∑ x, (if x = i then (1 : EReal) else 0) * v x) = v i := by
  rw [Finset.sum_eq_single i (fun x _ hx => by rw [if_neg hx, zero_mul]) (fun h => absurd (Finset.mem_univ i) h), if_pos rfl, one_mul]

end Cert.Math

end
-- ==== Proof.Order.lean ====
/-
  The order of the keys. For a query of finite entries, the scalar product with a key less half the key's square grows
  exactly where the sum of the squared differences falls; so does the mean of the squared differences, negated. A unit
  vector, as both sides compute it, has finite entries whatever the vector.
-/
module

public import proofs.«01_k».proof.Proof.Nearest

@[expose] public section

noncomputable section

namespace Cert.Math

open Idealize.ShloMosaic

/-- The sum of the squared differences of two vectors. -/
def dist {n : ℕ} (q v : Fin n → EReal) : EReal := ∑ x, (q x - v x) * (q x - v x)

/-- The scalar product less half the square of the second. -/
def score {n : ℕ} (q v : Fin n → EReal) : EReal :=
  (∑ x, q x * v x) - Ideal.ofBits .f32 0x3F000000#32 * ∑ x, v x * v x

/-- Every entry is a real number. -/
def Finite {n : ℕ} (q : Fin n → EReal) : Prop := ∃ r : Fin n → ℝ, q = fun x => (r x : EReal)

theorem ofBits_half : Ideal.ofBits .f32 0x3F000000#32 = ((1 / 2 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_negInf : Ideal.ofBits .f32 0xFF800000#32 = ⊥ := by
  simp [Ideal.ofBits, Ideal.ieee]

theorem ofBits_eps : ∃ e : ℝ, 0 < e ∧ Ideal.ofBits .f32 0x2B8CBCCC#32 = (e : EReal) := by
  refine ⟨_, ?_, by simp [Ideal.ofBits, Ideal.ieee, -EReal.coe_mul]; rfl⟩
  norm_num

theorem coe_sum {n : ℕ} (r : Fin n → ℝ) : ∑ x, (r x : EReal) = ((∑ x, r x : ℝ) : EReal) := by
  induction n with
  | zero => simp
  | succ n ih => rw [Fin.sum_univ_succ, Fin.sum_univ_succ, ih, EReal.coe_add]

theorem square_nonneg (x : EReal) : 0 ≤ x * x := by
  induction x using EReal.rec with
  | bot => simp
  | top => simp
  | coe r => rw [← EReal.coe_mul]; exact_mod_cast mul_self_nonneg r

/-- A sum of squares with an infinite term is infinite. -/
theorem sum_squares_top {n : ℕ} (v : Fin n → EReal) (i : Fin n) (hi : v i * v i = ⊤) : ∑ x, v x * v x = ⊤ :=
  top_le_iff.mp (hi ▸ Finset.single_le_sum (f := fun x => v x * v x) (fun x _ => square_nonneg (v x)) (Finset.mem_univ i))

/-- A vector has real entries, or an infinite one. -/
theorem finite_or_infinite {n : ℕ} (v : Fin n → EReal) : Finite v ∨ ∃ i, v i = ⊤ ∨ v i = ⊥ := by
  by_cases h : ∃ i, v i = ⊤ ∨ v i = ⊥
  · exact Or.inr h
  · have h' : ∀ i, v i ≠ ⊤ ∧ v i ≠ ⊥ := fun i => ⟨fun e => h ⟨i, Or.inl e⟩, fun e => h ⟨i, Or.inr e⟩⟩
    exact Or.inl ⟨fun x => (v x).toReal, funext fun x => (EReal.coe_toReal (h' x).1 (h' x).2).symm⟩

theorem dist_coe {n : ℕ} (q v : Fin n → ℝ) :
    dist (fun x => (q x : EReal)) (fun x => (v x : EReal)) = ((∑ x, (q x - v x) * (q x - v x) : ℝ) : EReal) := by
  rw [dist, ← coe_sum]
  exact Finset.sum_congr rfl fun x _ => by rw [← EReal.coe_sub, ← EReal.coe_mul]

theorem score_coe {n : ℕ} (q v : Fin n → ℝ) :
    score (fun x => (q x : EReal)) (fun x => (v x : EReal)) = ((∑ x, q x * v x - 1 / 2 * ∑ x, v x * v x : ℝ) : EReal) := by
  rw [score, ofBits_half, EReal.coe_sub, EReal.coe_mul, ← coe_sum, ← coe_sum]
  simp only [EReal.coe_mul]

/-- The square expanded. -/
theorem real_expand {n : ℕ} (q v : Fin n → ℝ) :
    ∑ x, (q x - v x) * (q x - v x) = ∑ x, q x * q x - 2 * (∑ x, q x * v x - 1 / 2 * ∑ x, v x * v x) := by
  simp only [mul_sub, Finset.mul_sum, ← Finset.sum_sub_distrib]
  exact Finset.sum_congr rfl fun x _ => by ring

theorem dist_infinite {n : ℕ} {q v : Fin n → EReal} (hq : Finite q) {i : Fin n} (hv : v i = ⊤ ∨ v i = ⊥) : dist q v = ⊤ := by
  obtain ⟨r, rfl⟩ := hq
  refine sum_squares_top (fun x => (r x : EReal) - v x) i ?_
  rcases hv with h | h
  · show ((r i : EReal) - v i) * ((r i : EReal) - v i) = ⊤
    rw [h, EReal.sub_top]; rfl
  · show ((r i : EReal) - v i) * ((r i : EReal) - v i) = ⊤
    rw [h, EReal.coe_sub_bot]; rfl

theorem score_infinite {n : ℕ} {q v : Fin n → EReal} {i : Fin n} (hv : v i = ⊤ ∨ v i = ⊥) : score q v = ⊥ := by
  have hs : ∑ x, v x * v x = ⊤ := sum_squares_top v i (by rcases hv with h | h <;> rw [h] <;> rfl)
  rw [score, hs, ofBits_half, EReal.coe_mul_top_of_pos (by norm_num), EReal.sub_top]

/-- The score orders two keys oppositely to their distances. -/
theorem score_lt_iff {n : ℕ} {q : Fin n → EReal} (hq : Finite q) (u v : Fin n → EReal) :
    score q u < score q v ↔ dist q v < dist q u := by
  rcases finite_or_infinite u with ⟨u', rfl⟩ | ⟨i, hu⟩
  · rcases finite_or_infinite v with ⟨v', rfl⟩ | ⟨j, hv⟩
    · obtain ⟨r, rfl⟩ := hq
      rw [score_coe, score_coe, dist_coe, dist_coe, EReal.coe_lt_coe_iff, EReal.coe_lt_coe_iff, real_expand, real_expand]
      constructor <;> intro h <;> linarith
    · rw [score_infinite hv, dist_infinite hq hv]
      exact ⟨fun h => absurd h not_lt_bot, fun h => absurd h not_top_lt⟩
  · rw [score_infinite hu, dist_infinite hq hu]
    rcases finite_or_infinite v with ⟨v', rfl⟩ | ⟨j, hv⟩
    · obtain ⟨r, rfl⟩ := hq
      rw [score_coe, dist_coe]
      exact ⟨fun _ => EReal.coe_lt_top _, fun _ => EReal.bot_lt_coe _⟩
    · rw [score_infinite hv, dist_infinite hq hv]
      exact ⟨fun h => absurd h (lt_irrefl _), fun h => absurd h (lt_irrefl _)⟩

/-- The mean over 128 entries, negated, orders oppositely. -/
theorem neg_mean_lt_iff (x y : EReal) :
    -(Ideal.div x (Ideal.ofBits .f32 0x43000000#32)) < -(Ideal.div y (Ideal.ofBits .f32 0x43000000#32)) ↔ y < x := by
  rw [EReal.neg_lt_neg_iff, ofBits_128, Ideal.div_coe (by norm_num : (128 : ℝ) ≠ 0), Ideal.div_coe (by norm_num : (128 : ℝ) ≠ 0)]
  have hp : (0 : ℝ) < 1 / 128 := by norm_num
  induction x using EReal.rec with
  | bot =>
    rw [EReal.bot_mul_coe_of_pos hp]
    exact ⟨fun h => absurd h not_lt_bot, fun h => absurd h not_lt_bot⟩
  | top =>
    rw [EReal.top_mul_coe_of_pos hp]
    induction y using EReal.rec with
    | bot => rw [EReal.bot_mul_coe_of_pos hp]
    | top => rw [EReal.top_mul_coe_of_pos hp]
    | coe y => rw [← EReal.coe_mul]; exact ⟨fun _ => EReal.coe_lt_top _, fun _ => EReal.coe_lt_top _⟩
  | coe x =>
    induction y using EReal.rec with
    | bot => rw [EReal.bot_mul_coe_of_pos hp, ← EReal.coe_mul]; exact ⟨fun _ => EReal.bot_lt_coe _, fun _ => EReal.bot_lt_coe _⟩
    | top => rw [EReal.top_mul_coe_of_pos hp]; exact ⟨fun h => absurd h not_top_lt, fun h => absurd h not_top_lt⟩
    | coe y =>
      rw [← EReal.coe_mul, ← EReal.coe_mul, EReal.coe_lt_coe_iff, EReal.coe_lt_coe_iff]
      constructor <;> intro h <;> linarith

/-- The vector over its length, the length no less than the small constant both sides carry. -/
def normed {n : ℕ} (v : Fin n → EReal) : Fin n → EReal :=
  fun x => Ideal.div (v x) (max (Ideal.sqrt (∑ y, v y * v y)) (Ideal.ofBits .f32 0x2B8CBCCC#32))

theorem normed_finite {n : ℕ} (v : Fin n → EReal) (h0 : ∀ x, 0 ≤ v x) : Finite (normed v) := by
  obtain ⟨e, he, hE⟩ := ofBits_eps
  rcases finite_or_infinite v with ⟨r, rfl⟩ | ⟨i, hi⟩
  · have hsum : ∑ y, (r y : EReal) * (r y : EReal) = ((∑ y, r y * r y : ℝ) : EReal) := by
      rw [← coe_sum]
      simp only [EReal.coe_mul]
    have hn : ¬(∑ y, r y * r y) < 0 := not_lt.mpr (Finset.sum_nonneg fun y _ => mul_self_nonneg (r y))
    have hm : max (Real.sqrt (∑ y, r y * r y)) e ≠ 0 := ne_of_gt (lt_of_lt_of_le he (le_max_right _ _))
    refine ⟨fun x => r x * (1 / max (Real.sqrt (∑ y, r y * r y)) e), funext fun x => ?_⟩
    show Ideal.div (r x : EReal) (max (Ideal.sqrt (∑ y, (r y : EReal) * (r y : EReal))) (Ideal.ofBits .f32 0x2B8CBCCC#32)) = _
    rw [hsum, hE, Ideal.sqrt_coe, if_neg hn, ← (show Monotone (fun x : ℝ => (x : EReal)) from fun _ _ => EReal.coe_le_coe).map_max, Ideal.div_coe hm, EReal.coe_mul]
  · have hs : ∑ y, v y * v y = ⊤ := sum_squares_top v i (by rcases hi with h | h <;> rw [h] <;> rfl)
    refine ⟨fun _ => 0, funext fun x => ?_⟩
    show Ideal.div (v x) (max (Ideal.sqrt (∑ y, v y * v y)) (Ideal.ofBits .f32 0x2B8CBCCC#32)) = _
    rw [hs, show Ideal.sqrt ⊤ = ⊤ from rfl, max_eq_left le_top, Ideal.div, if_neg EReal.top_ne_zero, EReal.inv_top, mul_zero]
    rfl

/-- The key a query is nearest to, the first of them where several are. -/
def Nearest {m n : ℕ} (q : Fin n → EReal) (K : Fin m → Fin n → EReal) (i : Fin m) : Prop :=
  (∀ j, dist q (K i) ≤ dist q (K j)) ∧ ∀ j < i, dist q (K i) < dist q (K j)

theorem nearest_of_firstMax {m n : ℕ} {q : Fin n → EReal} {K : Fin m → Fin n → EReal} {f : Fin m → EReal}
    (hf : ∀ a b, f a < f b ↔ dist q (K b) < dist q (K a)) {i : Fin m} (h : FirstMax f i) : Nearest q K i :=
  ⟨fun j => not_lt.mp fun hlt => absurd (h.1 j) (not_le.mpr ((hf i j).mpr hlt)), fun j hj => (hf j i).mp (h.2 j hj)⟩

theorem Nearest.unique {m n : ℕ} {q : Fin n → EReal} {K : Fin m → Fin n → EReal} {i j : Fin m} (hi : Nearest q K i)
    (hj : Nearest q K j) : i = j := by
  rcases lt_trichotomy i j with h | h | h
  · exact absurd (hi.1 j) (not_le.mpr (hj.2 i h))
  · exact h
  · exact absurd (hj.1 i) (not_le.mpr (hi.2 j h))

/-- The heat of a query against the key `v`: the sum of the fourth powers of the differences. -/
def heat {n : ℕ} (q v : Fin n → EReal) : EReal := ∑ x, (q x - v x) * (q x - v x) * ((q x - v x) * (q x - v x))

end Cert.Math

end
-- ==== Proof.Fourth.lean ====
/-
  The fourth layer and the query. The last layer is computed as a value, of the image the third scratch buffer holds; the
  query at a pixel is its 128 channels over their length.
-/
module

public import proofs.«01_k».proof.Proof.Body
public import proofs.«01_k».proof.Proof.Third
public import proofs.«01_k».proof.Proof.Order

@[expose] public section

set_option maxRecDepth 16384

noncomputable section

namespace Cert.KernelIdeal.Body

open Cert.KernelIdeal Cert.KernelIdeal.Gen Cert.Math
open Idealize.ShloMosaic Idealize.ShloMosaic.TcCoe Idealize.ShloMosaic.Tactic

variable (c : Dev nD)
  (M0 : Memref sig .tc .vmem S64x4x14x432 .f32) (h0 : M0.IsWhole) (M1 : Memref sig .tc .vmem S27x32 .f32) (h1 : M1.IsWhole)
  (M2 : Memref sig .tc .vmem S9x32x64 .f32) (h2 : M2.IsWhole) (M3 : Memref sig .tc .vmem S9x64x128 .f32) (h3 : M3.IsWhole)
  (M4 : Memref sig .tc .vmem S9x128x128 .f32) (h4 : M4.IsWhole) (M5 : Memref sig .tc .vmem S128x512 .f32) (h5 : M5.IsWhole)
  (M6 : Memref sig .tc .vmem S512x128 .f32) (h6 : M6.IsWhole) (M7 : Memref sig .tc .vmem S4x14x14 .f32) (h7 : M7.IsWhole)
  (M8 : Memref sig .tc .vmem S64x4x16x16x32 .f32) (h8 : M8.IsWhole) (M9 : Memref sig .tc .vmem S16x4x16x16x64 .f32) (h9 : M9.IsWhole)
  (M10 : Memref sig .tc .vmem S4x4x16x16x128 .f32) (h10 : M10.IsWhole)

variable (f0 : M0.view.ty.Contents (Elt Ideal)) (f1 : M1.view.ty.Contents (Elt Ideal)) (f2 : M2.view.ty.Contents (Elt Ideal))
  (f3 : M3.view.ty.Contents (Elt Ideal)) (f4 : M4.view.ty.Contents (Elt Ideal)) (f8 : M8.view.ty.Contents (Elt Ideal))
  (f9 : M9.view.ty.Contents (Elt Ideal)) (f10 : M10.view.ty.Contents (Elt Ideal))

/-- The query's payload, out of the last layer's partial sum and its last two taps. -/
theorem pay58_apply (v556 : FVec Ideal S4x14x16x128 .f32) (v557 : Vec Ideal S1x4x14x16x128 .f32) (v559 : Vec Ideal S1x128x128 .f32)
    (v563 : Vec Ideal S1x4x14x16x128 .f32) (v568 : Vec Ideal S1x128x128 .f32) (b : Fin 4) (I J : Fin 14) (k : Fin 128) :
    k0_pay58 v556 v557 v559 v563 v568 (ix4 b ⟨I.val, by omega⟩ ⟨J.val, by omega⟩ k)
      = normed (fun o : Fin 128 => max (v556 (ix4 b I ⟨J.val, by omega⟩ o)
          + (∑ x : Fin 128, v557 (ix5 0 b I ⟨J.val, by omega⟩ x) * v559 (ix3 0 x o))
          + (∑ x : Fin 128, v563 (ix5 0 b I ⟨1 + J.val, by omega⟩ x) * v568 (ix3 0 x o))) 0) k := by
  unfold_payloads
  pointwise
  simp only [dif_pos (show J.val < 15 by omega)]
  rfl

set_option maxHeartbeats 8000000 in
/-- The query at a pixel, of the image the third scratch buffer holds. -/
theorem query4 {h : Image 128}
    (hX : Holds 2 h (M10.view.read (Elt Ideal) (M10.view.writes (Elt Ideal) f10 (bodyRun.sl.H10_4 c M0 h0 M1 h1 M2 h2 M3 h3 M4 h4 M5 h5 M6 h6 M7 h7 M8 h8 M9 h9 M10 h10 f0 f1 f2 f3 f8 f9))))
    (b : Fin 4) (I J : Fin 14) (k : Fin 128) :
    bodyRun.sl.r_29 (F := Ideal) c M0 h0 M1 h1 M2 h2 M3 h3 M4 h4 M5 h5 M6 h6 M7 h7 M8 h8 M9 h9 M10 h10 f0 f1 f2 f3 f4 f8 f9 f10 (ix4 b ⟨I.val, by omega⟩ ⟨J.val, by omega⟩ k)
      = normed (fun o => layer 14 h (fun t k o => M4.view.read (Elt Ideal) f4 (ix3 t k o)) b I.val J.val o) k := by
  have hI := I.isLt
  have hJ := J.isLt
  unfold bodyRun.sl.r_29
  rw [pay58_apply]
  refine congrArg (fun v => normed v k) (funext fun o => ?_)
  simp only [bodyRun.sl.r_28, bodyRun.sl.r_27, bodyRun.sl.v510, bodyRun.sl.v515, bodyRun.sl.v530, bodyRun.sl.v536, bodyRun.sl.v551, bodyRun.sl.v557]
  generalize M10.view.writes (Elt Ideal) f10 (bodyRun.sl.H10_4 c M0 h0 M1 h1 M2 h2 M3 h3 M4 h4 M5 h5 M6 h6 M7 h7 M8 h8 M9 h9 M10 h10 f0 f1 f2 f3 f8 f9) = X10 at hX ⊢
  simp only [View.readAt_eq_ld]
  unfold_payloads
  pointwise
  simp only [dif_pos (show J.val < 15 by omega)]
  refine layer_of_sums (W := fun t k o => M4.view.read (Elt Ideal) f4 (ix3 t k o)) (by omega) (by omega) (fun x => ?_)
    (fun x => ?_) (fun x => ?_) (fun x => ?_) (fun x => ?_) (fun x => ?_) (fun x => ?_) (fun x => ?_) (fun x => ?_)
  all_goals refine hX.at _ _ _ _ _ ?_ ?_ ?_ ?_
  all_goals simp only [Fin.coe_ofNat_eq_mod, Nat.reduceMod, Nat.reduceDiv]
  all_goals omega

end Cert.KernelIdeal.Body

end
-- ==== Proof.Head.lean ====
/-
  The choice of the key, as the kernel makes it: the first place of the largest score by two reductions, the second such
  place the same way with the first masked, both keys by one-hot products, and the second key only where it is strictly
  nearer or as near and earlier. It never is, so the first stands.
-/
module

public import proofs.«01_k».proof.Proof.Body
public import proofs.«01_k».proof.Proof.Order

@[expose] public section

set_option maxRecDepth 16384

noncomputable section

namespace Cert.KernelIdeal.Body

open Cert.KernelIdeal Cert.KernelIdeal.Gen Cert.Math
open Idealize.ShloMosaic Idealize.ShloMosaic.TcCoe Idealize.ShloMosaic.Tactic

/-- The scalar products of the query with the keys. -/
theorem pay60_apply (v556 : FVec Ideal S4x14x16x128 .f32) (v557 : Vec Ideal S1x4x14x16x128 .f32) (v559 : Vec Ideal S1x128x128 .f32)
    (v563 : Vec Ideal S1x4x14x16x128 .f32) (v568 : Vec Ideal S1x128x128 .f32) (v582 : Vec Ideal S128x512 .f32)
    (b : Fin 4) (I J : Fin 14) (j : Fin 512) :
    k0_pay60 v556 v557 v559 v563 v568 v582 (ix4 b ⟨I.val, by omega⟩ ⟨J.val, by omega⟩ j)
      = ∑ x : Fin 128, k0_pay58 v556 v557 v559 v563 v568 (ix4 b ⟨I.val, by omega⟩ ⟨J.val, by omega⟩ x) * v582 (ix2 x j) := by
  unfold k0_pay60 k0_pay59
  generalize k0_pay58 v556 v557 v559 v563 v568 = q
  dsimp only
  pointwise

/-- Half the square of a key. -/
theorem pay61_apply (v582 : Vec Ideal S128x512 .f32) (j : Fin 512) :
    k0_pay61 v582 (ix4 0 0 0 j) = Ideal.ofBits .f32 0x3F000000#32 * ∑ x : Fin 128, v582 (ix2 x j) * v582 (ix2 x j) := by
  unfold_payloads
  pointwise

theorem select_true {α : Type} (a b : α) : Scalar.select 1#1 a b = a := rfl
theorem select_false {α : Type} (a b : α) : Scalar.select 0#1 a b = b := rfl

/-- The chosen key's entry, the nearest key being `i`. -/
theorem pay62_apply (v581 : FVec Ideal S4x14x16x128 .f32) (v584 : Vec Ideal S512x128 .f32) (v585 : FVec Ideal S4x14x16x512 .f32)
    (v590 : FVec Ideal S1x1x1x512 .f32) (b : Fin 4) (I J : Fin 14) (f : Fin 512 → EReal)
    (hf : ∀ x, v585 (ix4 b ⟨I.val, by omega⟩ ⟨J.val, by omega⟩ x) - v590 (ix4 0 0 0 x) = f x) {i : Fin 512} (hi : FirstMax f i)
    (hn : Nearest (fun x : Fin 128 => v581 (ix4 b ⟨I.val, by omega⟩ ⟨J.val, by omega⟩ x)) (fun j x => v584 (ix2 j x)) i) (k : Fin 128) :
    k0_pay62 v581 v584 v585 v590 (ix4 b ⟨I.val, by omega⟩ ⟨J.val, by omega⟩ k) = v584 (ix2 i k) := by
  have hM : Finset.univ.fold max (Ideal.ofBits .f32 4286578688#32) (fun x => f x) = f i :=
    (congrArg (fun z => Finset.univ.fold max z f) ofBits_negInf).trans (fold_max_firstMax hi)
  obtain ⟨i2, h2⟩ := exists_firstMax (n := 512) (by decide) fun x =>
    Scalar.select (IntOp.cmpi .eq (BitVec.ofNat 32 x.val) (BitVec.ofNat 32 i.val)) (Ideal.ofBits .f32 4286578688#32) (f x)
  have hM2 : Finset.univ.fold max (Ideal.ofBits .f32 4286578688#32) (fun x : Fin 512 =>
      Scalar.select (IntOp.cmpi .eq (BitVec.ofNat 32 x.val) (BitVec.ofNat 32 i.val)) (Ideal.ofBits .f32 4286578688#32) (f x)) = _ :=
    (congrArg (fun z => Finset.univ.fold max z (fun x : Fin 512 =>
      Scalar.select (IntOp.cmpi .eq (BitVec.ofNat 32 x.val) (BitVec.ofNat 32 i.val)) (Ideal.ofBits .f32 4286578688#32) (f x)))
        ofBits_negInf).trans (fold_max_firstMax h2)
  unfold_payloads
  pointwise
  simp only [hf, hM, fold_minsi_firstMax hi]
  simp only [hM2, fold_minsi_firstMax h2]
  simp only [one_hot, sum_one_hot]
  have d1 := hn.1 i2
  have d2 := hn.2 i2
  simp only [Cert.Math.dist] at d1 d2
  rw [decide_eq_false (not_lt.mpr d1)]
  by_cases he : (∑ x : Fin 128, (v581 (ix4 b ⟨I.val, by omega⟩ ⟨J.val, by omega⟩ x) - v584 (ix2 i2 x)) * (v581 (ix4 b ⟨I.val, by omega⟩ ⟨J.val, by omega⟩ x) - v584 (ix2 i2 x)))
      = ∑ x : Fin 128, (v581 (ix4 b ⟨I.val, by omega⟩ ⟨J.val, by omega⟩ x) - v584 (ix2 i x)) * (v581 (ix4 b ⟨I.val, by omega⟩ ⟨J.val, by omega⟩ x) - v584 (ix2 i x))
  · have hle : ¬ i2 < i := fun hlt => absurd he.symm (ne_of_lt (d2 hlt))
    have hs : IntOp.cmpi .slt (BitVec.ofNat 32 i2.val) (BitVec.ofNat 32 i.val) = 0#1 := slt_place hle
    rw [hs, decide_eq_true he]
    rfl
  · rw [decide_eq_false he]
    generalize IntOp.cmpi .slt (BitVec.ofNat 32 i2.val) (BitVec.ofNat 32 i.val) = w
    have hw : w = 0#1 ∨ w = 1#1 := by revert w; decide
    rcases hw with rfl | rfl <;> rfl

/-- The heat of a pixel, of the query and the chosen key. -/
theorem pay1_apply (v581 v639 : FVec Ideal S4x14x16x128 .f32) (b : Fin 4) (I J : Fin 14) :
    k0_pay1 v581 v639 (ix3 b I J) = heat (fun x : Fin 128 => v581 (ix4 b ⟨I.val, by omega⟩ ⟨J.val, by omega⟩ x))
      (fun x : Fin 128 => v639 (ix4 b ⟨I.val, by omega⟩ ⟨J.val, by omega⟩ x)) := by
  unfold_payloads
  pointwise
  rfl

end Cert.KernelIdeal.Body

end
-- ==== Proof.Inputs.lean ====
/-
  The arguments as the mathematics reads them: the image with zeros around it, a layer's weights by tap, and the query of
  a pixel after four layers.
-/
module

public import proofs.«01_k».proof.Proof.Spec
public import proofs.«01_k».proof.Proof.Order

@[expose] public section

noncomputable section

namespace Cert.Math

open Idealize.ShloMosaic

/-- The given image (batch, channel, row, column), zero outside its 224 rows and columns. -/
def picture (x : (⟨4, ![4, 3, 224, 224]⟩ : Shape).Idx → EReal) : Image 3 :=
  fun b r c k => if h : r < 224 ∧ c < 224 then x (ix4 b k ⟨r, h.1⟩ ⟨c, h.2⟩) else 0

/-- A layer's given weights (output channel, input channel, row, column of the window) by tap. -/
def weights {C O : ℕ} (w : (⟨4, ![O, C, 3, 3]⟩ : Shape).Idx → EReal) : Weights C O :=
  fun t k o => w (ix4 o k ⟨t.val / 3, by omega⟩ ⟨t.val % 3, by omega⟩)

/-- The image after the first layer, … -/
def image1 (x : (⟨4, ![4, 3, 224, 224]⟩ : Shape).Idx → EReal) (w1 : (⟨4, ![32, 3, 3, 3]⟩ : Shape).Idx → EReal) : Image 32 :=
  layer 112 (picture x) (weights w1)

/-- … after the second, … -/
def image2 (x : (⟨4, ![4, 3, 224, 224]⟩ : Shape).Idx → EReal) (w1 : (⟨4, ![32, 3, 3, 3]⟩ : Shape).Idx → EReal)
    (w2 : (⟨4, ![64, 32, 3, 3]⟩ : Shape).Idx → EReal) : Image 64 :=
  layer 56 (image1 x w1) (weights w2)

/-- … after the third, … -/
def image3 (x : (⟨4, ![4, 3, 224, 224]⟩ : Shape).Idx → EReal) (w1 : (⟨4, ![32, 3, 3, 3]⟩ : Shape).Idx → EReal)
    (w2 : (⟨4, ![64, 32, 3, 3]⟩ : Shape).Idx → EReal) (w3 : (⟨4, ![128, 64, 3, 3]⟩ : Shape).Idx → EReal) : Image 128 :=
  layer 28 (image2 x w1 w2) (weights w3)

/-- … and after the fourth. -/
def image4 (x : (⟨4, ![4, 3, 224, 224]⟩ : Shape).Idx → EReal) (w1 : (⟨4, ![32, 3, 3, 3]⟩ : Shape).Idx → EReal)
    (w2 : (⟨4, ![64, 32, 3, 3]⟩ : Shape).Idx → EReal) (w3 : (⟨4, ![128, 64, 3, 3]⟩ : Shape).Idx → EReal)
    (w4 : (⟨4, ![128, 128, 3, 3]⟩ : Shape).Idx → EReal) : Image 128 :=
  layer 14 (image3 x w1 w2 w3) (weights w4)

/-- The query of a pixel: its channels after the fourth layer, over their length. -/
def query (x : (⟨4, ![4, 3, 224, 224]⟩ : Shape).Idx → EReal) (w1 : (⟨4, ![32, 3, 3, 3]⟩ : Shape).Idx → EReal)
    (w2 : (⟨4, ![64, 32, 3, 3]⟩ : Shape).Idx → EReal) (w3 : (⟨4, ![128, 64, 3, 3]⟩ : Shape).Idx → EReal)
    (w4 : (⟨4, ![128, 128, 3, 3]⟩ : Shape).Idx → EReal) (b : Fin 4) (r c : ℕ) : Fin 128 → EReal :=
  normed fun o => image4 x w1 w2 w3 w4 b r c o

/-- A layer has no negative entry. -/
theorem layer_nonneg {C O n : ℕ} (h : Image C) (W : Weights C O) (b : Fin 4) (r c : ℕ) (o : Fin O) : 0 ≤ layer n h W b r c o := by
  rw [layer]
  split
  · exact le_max_right _ _
  · exact le_rfl

/-- A query's entries are real numbers. -/
theorem query_finite (x : (⟨4, ![4, 3, 224, 224]⟩ : Shape).Idx → EReal) (w1 : (⟨4, ![32, 3, 3, 3]⟩ : Shape).Idx → EReal)
    (w2 : (⟨4, ![64, 32, 3, 3]⟩ : Shape).Idx → EReal) (w3 : (⟨4, ![128, 64, 3, 3]⟩ : Shape).Idx → EReal)
    (w4 : (⟨4, ![128, 128, 3, 3]⟩ : Shape).Idx → EReal) (b : Fin 4) (r c : ℕ) : Finite (query x w1 w2 w3 w4 b r c) :=
  normed_finite _ fun o => layer_nonneg _ _ b r c o

/-- The row of the key table with index `j`. -/
def keyRow (k : (⟨2, ![512, 128]⟩ : Shape).Idx → EReal) (j : Fin 512) : Fin 128 → EReal := fun x => k (ix2 j x)

end Cert.Math

end
-- ==== Proof.BodyValue.lean ====
/-
  What the body leaves: at every pixel, the fourth powers of the differences between the query and its nearest key, added.
-/
module

public import proofs.«01_k».proof.Proof.Fourth
public import proofs.«01_k».proof.Proof.Head
public import proofs.«01_k».proof.Proof.Inputs
public import proofs.«01_k».proof.Proof.SecondAll
public import proofs.«01_k».proof.Proof.First

@[expose] public section

set_option maxRecDepth 16384

noncomputable section

namespace Cert.KernelIdeal.Body

open Cert.KernelIdeal Cert.KernelIdeal.Gen Cert.Math
open Idealize.ShloMosaic Idealize.ShloMosaic.TcCoe Idealize.ShloMosaic.Tactic

variable (c : Dev nD)
  (M0 : Memref sig .tc .vmem S64x4x14x432 .f32) (h0 : M0.IsWhole) (M1 : Memref sig .tc .vmem S27x32 .f32) (h1 : M1.IsWhole)
  (M2 : Memref sig .tc .vmem S9x32x64 .f32) (h2 : M2.IsWhole) (M3 : Memref sig .tc .vmem S9x64x128 .f32) (h3 : M3.IsWhole)
  (M4 : Memref sig .tc .vmem S9x128x128 .f32) (h4 : M4.IsWhole) (M5 : Memref sig .tc .vmem S128x512 .f32) (h5 : M5.IsWhole)
  (M6 : Memref sig .tc .vmem S512x128 .f32) (h6 : M6.IsWhole) (M7 : Memref sig .tc .vmem S4x14x14 .f32) (h7 : M7.IsWhole)
  (M8 : Memref sig .tc .vmem S64x4x16x16x32 .f32) (h8 : M8.IsWhole) (M9 : Memref sig .tc .vmem S16x4x16x16x64 .f32) (h9 : M9.IsWhole)
  (M10 : Memref sig .tc .vmem S4x4x16x16x128 .f32) (h10 : M10.IsWhole)

variable (f0 : M0.view.ty.Contents (Elt Ideal)) (f1 : M1.view.ty.Contents (Elt Ideal)) (f2 : M2.view.ty.Contents (Elt Ideal))
  (f3 : M3.view.ty.Contents (Elt Ideal)) (f4 : M4.view.ty.Contents (Elt Ideal)) (f5 : M5.view.ty.Contents (Elt Ideal))
  (f6 : M6.view.ty.Contents (Elt Ideal)) (f7 : M7.view.ty.Contents (Elt Ideal)) (f8 : M8.view.ty.Contents (Elt Ideal))
  (f9 : M9.view.ty.Contents (Elt Ideal)) (f10 : M10.view.ty.Contents (Elt Ideal))

theorem off3 : (![0, 0, 0] : Fin 3 → Nat) = fun _ => 0 := funext fun a => by fin_cases a <;> rfl

/-- One store of a whole rank-3 array, read back. -/
theorem read_whole_store {S : Shape} (v : View sig .tc .vmem S .f32) (f : v.ty.Contents (Elt Ideal)) {off : Fin S.rank → Nat}
    (ho : off = fun _ => 0) (inb : ∀ a, off a + S.size a ≤ S.size a) (w : S.Idx → EReal) :
    v.read (Elt Ideal) (v.writes (Elt Ideal) f [⟨Rect.unit off S.size inb, w⟩]) = w := by
  subst ho
  funext y
  exact View.read_writes_apply_of_pieces v f w _ (fun p hp x => by
    obtain rfl := List.mem_singleton.mp hp
    exact congrArg w (Rect.emb_whole_apply S x).symm) y ⟨_, List.mem_singleton.mpr rfl, by
    rw [Rect.mem_set_unit]; exact fun a => ⟨Nat.zero_le _, by simpa using (y a).isLt⟩⟩

/-- The body's result at a pixel, from the image the third scratch buffer holds. -/
theorem result_of_third {h : Image 128}
    (hX : Holds 2 h (M10.view.read (Elt Ideal) (M10.view.writes (Elt Ideal) f10 (bodyRun.sl.H10_4 c M0 h0 M1 h1 M2 h2 M3 h3 M4 h4 M5 h5 M6 h6 M7 h7 M8 h8 M9 h9 M10 h10 f0 f1 f2 f3 f8 f9))))
    (hT : ∀ x j, M5.view.read (Elt Ideal) f5 (ix2 x j) = M6.view.read (Elt Ideal) f6 (ix2 j x))
    (b : Fin 4) (I J : Fin 14) {i : Fin 512}
    (hi : Nearest (normed fun o => layer 14 h (fun t k o => M4.view.read (Elt Ideal) f4 (ix3 t k o)) b I.val J.val o)
      (keyRow (M6.view.read (Elt Ideal) f6)) i) :
    M7.view.read (Elt Ideal) (M7.view.writes (Elt Ideal) f7 (bodyRun (F := Ideal) c M0 h0 M1 h1 M2 h2 M3 h3 M4 h4 M5 h5 M6 h6 M7 h7 M8 h8 M9 h9 M10 h10 f0 f1 f2 f3 f4 f5 f6 f8 f9 f10).1) (ix3 b I J)
      = heat (normed fun o => layer 14 h (fun t k o => M4.view.read (Elt Ideal) f4 (ix3 t k o)) b I.val J.val o)
        (keyRow (M6.view.read (Elt Ideal) f6) i) := by
  have hQ := fun k => query4 c M0 h0 M1 h1 M2 h2 M3 h3 M4 h4 M5 h5 M6 h6 M7 h7 M8 h8 M9 h9 M10 h10 f0 f1 f2 f3 f4 f8 f9 f10 hX b I J k
  have hfin : Finite (normed fun o => layer 14 h (fun t k o => M4.view.read (Elt Ideal) f4 (ix3 t k o)) b I.val J.val o) :=
    normed_finite _ fun o => layer_nonneg _ _ b I.val J.val o
  generalize (normed fun o => layer 14 h (fun t k o => M4.view.read (Elt Ideal) f4 (ix3 t k o)) b I.val J.val o) = q at hQ hfin hi ⊢
  have e5 : View.readAt (Elt Ideal) M5.view (Rect.unit ![0, 0] S128x512.size inb_S128x512_S128x512_0_0).toLoadRect f5
      = M5.view.read (Elt Ideal) f5 := by
    funext x
    idx_vars x
    simp only [View.readAt_eq_ld]
    pointwise
  have e6 : View.readAt (Elt Ideal) M6.view (Rect.unit ![0, 0] S512x128.size inb_S512x128_S512x128_0_0).toLoadRect f6
      = M6.view.read (Elt Ideal) f6 := by
    funext x
    idx_vars x
    simp only [View.readAt_eq_ld]
    pointwise
  delta bodyRun
  dsimp only
  unfold bodyRun.sl.r_33 bodyRun.sl.r_31 bodyRun.sl.r_32 bodyRun.sl.r_30
  rw [read_whole_store M7.view f7 off3, e5, e6]
  have hq58 := hQ
  unfold bodyRun.sl.r_29 at hq58
  obtain ⟨i', hi'⟩ := exists_firstMax (n := 512) (by decide) fun j => score q (keyRow (M6.view.read (Elt Ideal) f6) j)
  have hn := nearest_of_firstMax (fun a b => score_lt_iff hfin _ _) hi'
  obtain rfl := hi.unique hn
  have hqf : (fun x : Fin 128 => bodyRun.sl.r_29 (F := Ideal) c M0 h0 M1 h1 M2 h2 M3 h3 M4 h4 M5 h5 M6 h6 M7 h7 M8 h8 M9 h9 M10 h10 f0 f1 f2 f3 f4 f8 f9 f10 (ix4 b ⟨I.val, by omega⟩ ⟨J.val, by omega⟩ x)) = q :=
    funext hQ
  rw [pay1_apply, hqf]
  refine congrArg (heat q) (funext fun k => ?_)
  exact pay62_apply _ _ _ _ b I J _ (fun j => by
    rw [pay60_apply, pay61_apply]
    simp only [hq58, hT]
    rfl) hi' (by rw [hqf]; exact hi) k

/-- The body's result at a pixel, from the image of the first layer. -/
theorem result_apply {h : Image 32} (hz : ZeroFrom 112 h)
    (hF : FirstLayer h (M0.view.read (Elt Ideal) f0) (M1.view.read (Elt Ideal) f1))
    (hT : ∀ x j, M5.view.read (Elt Ideal) f5 (ix2 x j) = M6.view.read (Elt Ideal) f6 (ix2 j x))
    {W2 : Weights 32 64} {W3 : Weights 64 128} {W4 : Weights 128 128}
    (hW2 : ∀ t k o, M2.view.read (Elt Ideal) f2 (ix3 t k o) = W2 t k o)
    (hW3 : ∀ t k o, M3.view.read (Elt Ideal) f3 (ix3 t k o) = W3 t k o)
    (hW4 : ∀ t k o, M4.view.read (Elt Ideal) f4 (ix3 t k o) = W4 t k o)
    (b : Fin 4) (I J : Fin 14) {i : Fin 512}
    (hi : Nearest (normed fun o => layer 14 (layer 28 (layer 56 h W2) W3) W4 b I.val J.val o) (keyRow (M6.view.read (Elt Ideal) f6)) i) :
    M7.view.read (Elt Ideal) (M7.view.writes (Elt Ideal) f7 (bodyRun (F := Ideal) c M0 h0 M1 h1 M2 h2 M3 h3 M4 h4 M5 h5 M6 h6 M7 h7 M8 h8 M9 h9 M10 h10 f0 f1 f2 f3 f4 f5 f6 f8 f9 f10).1) (ix3 b I J)
      = heat (normed fun o => layer 14 (layer 28 (layer 56 h W2) W3) W4 b I.val J.val o) (keyRow (M6.view.read (Elt Ideal) f6) i) := by
  obtain rfl : (fun t k o => M2.view.read (Elt Ideal) f2 (ix3 t k o)) = W2 := funext fun t => funext fun k => funext fun o => hW2 t k o
  obtain rfl : (fun t k o => M3.view.read (Elt Ideal) f3 (ix3 t k o)) = W3 := funext fun t => funext fun k => funext fun o => hW3 t k o
  obtain rfl : (fun t k o => M4.view.read (Elt Ideal) f4 (ix3 t k o)) = W4 := funext fun t => funext fun k => funext fun o => hW4 t k o
  exact result_of_third c M0 h0 M1 h1 M2 h2 M3 h3 M4 h4 M5 h5 M6 h6 M7 h7 M8 h8 M9 h9 M10 h10 f0 f1 f2 f3 f4 f5 f6 f7 f8 f9 f10
    (holds10 c M0 h0 M1 h1 M2 h2 M3 h3 M4 h4 M5 h5 M6 h6 M7 h7 M8 h8 M9 h9 M10 h10 f0 f1 f2 f3 f8 f9 f10
      (holds9 c M0 h0 M1 h1 M2 h2 M3 h3 M4 h4 M5 h5 M6 h6 M7 h7 M8 h8 M9 h9 M10 h10 f0 f1 f2 f8 f9
        (holds8 Variants.none c none M0 h0 M1 h1 M2 h2 M3 h3 M4 h4 M5 h5 M6 h6 M7 h7 M8 h8 M9 h9 M10 h10 f0 f1 f8 hz hF)))
    hT b I J hi

end Cert.KernelIdeal.Body

end
-- ==== Proof.HostInputs.lean ====
/-
  What the windows bring the body, in terms of the arguments: the host lines before the kernel lay the picture out in
  nine shifted copies per pixel of the first layer, and move the window's place in front of the channels in every array of
  weights.
-/
module

public import proofs.«01_k».proof.Proof.Gen.KernelIdeal.Frame
public import proofs.«01_k».proof.Proof.Gen.KernelIdeal.Points
public import proofs.«01_k».proof.Proof.Inputs
public import proofs.«01_k».proof.Proof.First
public import Idealize.ShloMosaic.Lib.Pointwise
public import Idealize.ShloMosaic.Lib.Pipeline.Value
public import Idealize.ShloMosaic.Lib.StableHlo.ReadAt
public import Idealize.ShloMosaic.Lib.Tactic.CleanTypes

@[expose] public section

set_option maxRecDepth 16384

noncomputable section

namespace Cert.KernelIdeal.Body

open Cert.KernelIdeal Cert.KernelIdeal.Gen Cert.Math
open Idealize.ShloMosaic Idealize.ShloMosaic.TcCoe Idealize.ShloMosaic.Tactic Idealize.ShloMosaic.StableHlo

/-! ## The picture -/

/-- Channels last, and zero below and to the right. -/
theorem after_v1 (V : Valuation τ sig (Elt Ideal)) (b : Fin 4) (r s : Fin 226) (k : Fin 3) :
    (after (hostOps0 ++ hostOps0_1) V (Proc.devRef .tc main_v1) : S4x226x226x3.Idx → EReal) (ix4 b r s k)
      = picture (V (Proc.devRef .tc main_arg0)) b r.val s.val k := by
  simp only [List.cons_append, List.nil_append, List.append_nil]
  after_reads_at
  unfold picture
  split
  · rfl
  · show (((0 : ℤ) : ℝ) : EReal) = 0
    norm_num

/-- The nine shifted copies, side by side. -/
theorem after_v29 (V : Valuation τ sig (Elt Ideal)) :
    (after hostOps0_2 V (Proc.devRef .tc main_v29) : S4x14x8x14x8x9x3.Idx → EReal)
      = concatenate S4x14x8x14x8x9x3 5 [⟨S4x14x8x14x8x1x3, (upto hostOps0_2 V 27 (Proc.devRef .tc main_v20) : S4x14x8x14x8x1x3.Idx → EReal)⟩,
        ⟨S4x14x8x14x8x1x3, (upto hostOps0_2 V 27 (Proc.devRef .tc main_v21) : S4x14x8x14x8x1x3.Idx → EReal)⟩,
        ⟨S4x14x8x14x8x1x3, (upto hostOps0_2 V 27 (Proc.devRef .tc main_v22) : S4x14x8x14x8x1x3.Idx → EReal)⟩,
        ⟨S4x14x8x14x8x1x3, (upto hostOps0_2 V 27 (Proc.devRef .tc main_v23) : S4x14x8x14x8x1x3.Idx → EReal)⟩,
        ⟨S4x14x8x14x8x1x3, (upto hostOps0_2 V 27 (Proc.devRef .tc main_v24) : S4x14x8x14x8x1x3.Idx → EReal)⟩,
        ⟨S4x14x8x14x8x1x3, (upto hostOps0_2 V 27 (Proc.devRef .tc main_v25) : S4x14x8x14x8x1x3.Idx → EReal)⟩,
        ⟨S4x14x8x14x8x1x3, (upto hostOps0_2 V 27 (Proc.devRef .tc main_v26) : S4x14x8x14x8x1x3.Idx → EReal)⟩,
        ⟨S4x14x8x14x8x1x3, (upto hostOps0_2 V 27 (Proc.devRef .tc main_v27) : S4x14x8x14x8x1x3.Idx → EReal)⟩,
        ⟨S4x14x8x14x8x1x3, (upto hostOps0_2 V 27 (Proc.devRef .tc main_v28) : S4x14x8x14x8x1x3.Idx → EReal)⟩]
        concatenates_S4x14x8x14x8x1x3_S4x14x8x14x8x1x3_S4x14x8x14x8x1x3_S4x14x8x14x8x1x3_S4x14x8x14x8x1x3_S4x14x8x14x8x1x3_S4x14x8x14x8x1x3_S4x14x8x14x8x1x3_S4x14x8x14x8x1x3_S4x14x8x14x8x9x3_d5 :=
  (after_last_write (r := main_v29) [main_c_0] (i := 27) rfl rfl (by decide) V).trans (nary_result _ _ _ _ _ _)

theorem ix4_congr {n0 n1 n2 n3 : ℕ} (f : (⟨4, ![n0, n1, n2, n3]⟩ : Shape).Idx → EReal) (b : Fin n0) {r r' : Fin n1} {s s' : Fin n2} (k : Fin n3)
    (hr : r.val = r'.val) (hs : s.val = s'.val) : f (ix4 b r s k) = f (ix4 b r' s' k) := by
  rw [Fin.ext hr, Fin.ext hs]

theorem after_v29_at (V : Valuation τ sig (Elt Ideal)) (b : Fin 4) (I J : Fin 14) (a e : Fin 8) (t : Fin 9) (k : Fin 3) :
    (after hostOps0_2 V (Proc.devRef .tc main_v29) : S4x14x8x14x8x9x3.Idx → EReal) (ix7 b I a J e t k)
      = (V (Proc.devRef .tc main_v1) : S4x226x226x3.Idx → EReal)
        (ix4 b ⟨2 * (8 * I.val + a.val) + t.val / 3, by omega⟩ ⟨2 * (8 * J.val + e.val) + t.val % 3, by omega⟩ k) := by
  rw [after_v29]
  after_reads_simp
  clean_types
  fin_cases t <;> pointwise <;> exact ix4_congr _ b k (by dsimp only; omega) (by dsimp only; omega)

/-- The kernel's first operand: pixel phase, batch, row of the phase, and (column of the phase, tap, channel). -/
theorem after_v32_at (V : Valuation τ sig (Elt Ideal)) (b : Fin 4) (I J : Fin 14) (p : Fin 64) (t : Fin 9) (k : Fin 3) :
    (after (hostOps0_3 ++ hostOps0_4) V (Proc.devRef .tc main_v32) : S64x4x14x432.Idx → EReal)
        (ix4 p b I ⟨J.val * 27 + (t.val * 3 + k.val), by omega⟩)
      = (V (Proc.devRef .tc main_v29) : S4x14x8x14x8x9x3.Idx → EReal)
        (ix7 b I ⟨p.val / 8, by omega⟩ J ⟨p.val % 8, by omega⟩ t k) := by
  have hJ : (⟨(J.val * 27 + (t.val * 3 + k.val)) / 27, by omega⟩ : Fin 14) = J := Fin.ext (by dsimp only; omega)
  simp only [List.cons_append, List.nil_append, List.append_nil]
  after_reads_at
  rw [dif_pos]
  · exact congrArg (fun z => (V (Proc.devRef .tc main_v29) : S4x14x8x14x8x9x3.Idx → EReal) (ix7 b I ⟨p.val / 8, by omega⟩ z ⟨p.val % 8, by omega⟩ t k)) hJ
  · intro a
    fin_cases a
    · exact ⟨Nat.zero_le _, Nat.mod_one _, (Nat.div_one _).trans_lt b.isLt⟩
    · exact ⟨Nat.zero_le _, Nat.mod_one _, (Nat.div_one _).trans_lt I.isLt⟩
    · exact ⟨Nat.zero_le _, Nat.mod_one _, (Nat.div_one _).trans_lt (by omega : p.val / 8 < 8)⟩
    · exact ⟨Nat.zero_le _, Nat.mod_one _, (Nat.div_one _).trans_lt (by omega : (J.val * 27 + (t.val * 3 + k.val)) / 27 < 14)⟩
    · exact ⟨Nat.zero_le _, Nat.mod_one _, (Nat.div_one _).trans_lt (by omega : p.val % 8 < 8)⟩
    · exact ⟨Nat.zero_le _, Nat.mod_one _, (Nat.div_one _).trans_lt t.isLt⟩
    · exact ⟨Nat.zero_le _, Nat.mod_one _, (Nat.div_one _).trans_lt k.isLt⟩

variable (m : (ℓ : Loc nD τ sig) → Buf (Elt Ideal) ℓ) (c : Dev nD)

/-- The lines before the kernel, in three stretches. -/
theorem V_split (r : Ref sig .tc) : V m c r
    = after (hostOps0_3 ++ hostOps0_4) (after hostOps0_2 (after (hostOps0 ++ hostOps0_1) fun b => m (c, b))) (Proc.devRef .tc r) := rfl

theorem V_v32 (b : Fin 4) (I J : Fin 14) (p : Fin 64) (t : Fin 9) (k : Fin 3) :
    (V m c main_v32 : S64x4x14x432.Idx → EReal) (ix4 p b I ⟨J.val * 27 + (t.val * 3 + k.val), by omega⟩)
      = picture (m ((c : Thread nD τ).loc main_arg0) : S4x3x224x224.Idx → EReal) b
        (2 * (8 * I.val + p.val / 8) + t.val / 3) (2 * (8 * J.val + p.val % 8) + t.val % 3) k := by
  rw [V_split, after_v32_at, after_v29_at, after_v1]

/-! ## The weights and the keys -/

theorem V_v34 (t : Fin 9) (k : Fin 3) (o : Fin 32) : (V m c main_v34 : S27x32.Idx → EReal) (ix2 ⟨t.val * 3 + k.val, by omega⟩ o)
    = weights (m ((c : Thread nD τ).loc main_arg1) : S32x3x3x3.Idx → EReal) t k o := by
  unfold V V0
  simp only [List.flatten_cons, List.flatten_nil, List.cons_append, List.nil_append, List.append_nil]
  after_reads_at
  unfold weights
  congr 2 <;> exact Fin.ext (by dsimp only; omega)

theorem V_v36 (t : Fin 9) (k : Fin 32) (o : Fin 64) : (V m c main_v36 : S9x32x64.Idx → EReal) (ix3 t k o)
    = weights (m ((c : Thread nD τ).loc main_arg2) : S64x32x3x3.Idx → EReal) t k o := by
  unfold V V0
  simp only [List.flatten_cons, List.flatten_nil, List.cons_append, List.nil_append, List.append_nil]
  after_reads_at
  rfl

theorem V_v38 (t : Fin 9) (k : Fin 64) (o : Fin 128) : (V m c main_v38 : S9x64x128.Idx → EReal) (ix3 t k o)
    = weights (m ((c : Thread nD τ).loc main_arg3) : S128x64x3x3.Idx → EReal) t k o := by
  unfold V V0
  simp only [List.flatten_cons, List.flatten_nil, List.cons_append, List.nil_append, List.append_nil]
  after_reads_at
  rfl

theorem V_v40 (t : Fin 9) (k : Fin 128) (o : Fin 128) : (V m c main_v40 : S9x128x128.Idx → EReal) (ix3 t k o)
    = weights (m ((c : Thread nD τ).loc main_arg4) : S128x128x3x3.Idx → EReal) t k o := by
  unfold V V0
  simp only [List.flatten_cons, List.flatten_nil, List.cons_append, List.nil_append, List.append_nil]
  after_reads_at
  rfl

theorem V_v41 (x : Fin 128) (j : Fin 512) : (V m c main_v41 : S128x512.Idx → EReal) (ix2 x j)
    = (m ((c : Thread nD τ).loc main_arg5) : S512x128.Idx → EReal) (ix2 j x) := by
  unfold V V0
  simp only [List.flatten_cons, List.flatten_nil, List.cons_append, List.nil_append, List.append_nil]
  after_reads_at

/-! ## The windows' blocks, each its whole array -/

theorem off_zero {n : ℕ} (off : Fin n → Nat) (h : ∀ a, off a = 0) : off = fun _ => 0 := funext h

theorem iblk_0 (t : Fin cfg0.N) : (iblk m c 0 t : S64x4x14x432.Idx → EReal) = V m c main_v32 := by
  obtain rfl := fin_N0 t
  unfold iblk
  exact Memref.read_access_unit_zero (Elt Ideal) main_v32 (off_zero (fun a => win0_0.index t0_0 a * main_v32.ty.shape.size a) (fun a => by fin_cases a <;> decide)) (fun a => by rw [congrFun (off_zero (fun a => win0_0.index t0_0 a * main_v32.ty.shape.size a) (fun a => by fin_cases a <;> decide)) a]; simp) (V m c main_v32)

theorem iblk_1 (t : Fin cfg0.N) : (iblk m c 1 t : S27x32.Idx → EReal) = V m c main_v34 := by
  obtain rfl := fin_N0 t
  unfold iblk
  exact Memref.read_access_unit_zero (Elt Ideal) main_v34 (off_zero (fun a => win0_1.index t0_0 a * main_v34.ty.shape.size a) (fun a => by fin_cases a <;> decide)) (fun a => by rw [congrFun (off_zero (fun a => win0_1.index t0_0 a * main_v34.ty.shape.size a) (fun a => by fin_cases a <;> decide)) a]; simp) (V m c main_v34)

theorem iblk_2 (t : Fin cfg0.N) : (iblk m c 2 t : S9x32x64.Idx → EReal) = V m c main_v36 := by
  obtain rfl := fin_N0 t
  unfold iblk
  exact Memref.read_access_unit_zero (Elt Ideal) main_v36 (off_zero (fun a => win0_2.index t0_0 a * main_v36.ty.shape.size a) (fun a => by fin_cases a <;> decide)) (fun a => by rw [congrFun (off_zero (fun a => win0_2.index t0_0 a * main_v36.ty.shape.size a) (fun a => by fin_cases a <;> decide)) a]; simp) (V m c main_v36)

theorem iblk_3 (t : Fin cfg0.N) : (iblk m c 3 t : S9x64x128.Idx → EReal) = V m c main_v38 := by
  obtain rfl := fin_N0 t
  unfold iblk
  exact Memref.read_access_unit_zero (Elt Ideal) main_v38 (off_zero (fun a => win0_3.index t0_0 a * main_v38.ty.shape.size a) (fun a => by fin_cases a <;> decide)) (fun a => by rw [congrFun (off_zero (fun a => win0_3.index t0_0 a * main_v38.ty.shape.size a) (fun a => by fin_cases a <;> decide)) a]; simp) (V m c main_v38)

theorem iblk_4 (t : Fin cfg0.N) : (iblk m c 4 t : S9x128x128.Idx → EReal) = V m c main_v40 := by
  obtain rfl := fin_N0 t
  unfold iblk
  exact Memref.read_access_unit_zero (Elt Ideal) main_v40 (off_zero (fun a => win0_4.index t0_0 a * main_v40.ty.shape.size a) (fun a => by fin_cases a <;> decide)) (fun a => by rw [congrFun (off_zero (fun a => win0_4.index t0_0 a * main_v40.ty.shape.size a) (fun a => by fin_cases a <;> decide)) a]; simp) (V m c main_v40)

theorem iblk_5 (t : Fin cfg0.N) : (iblk m c 5 t : S128x512.Idx → EReal) = V m c main_v41 := by
  obtain rfl := fin_N0 t
  unfold iblk
  exact Memref.read_access_unit_zero (Elt Ideal) main_v41 (off_zero (fun a => win0_5.index t0_0 a * main_v41.ty.shape.size a) (fun a => by fin_cases a <;> decide)) (fun a => by rw [congrFun (off_zero (fun a => win0_5.index t0_0 a * main_v41.ty.shape.size a) (fun a => by fin_cases a <;> decide)) a]; simp) (V m c main_v41)

theorem iblk_6 (t : Fin cfg0.N) : (iblk m c 6 t : S512x128.Idx → EReal) = V m c main_arg5 := by
  obtain rfl := fin_N0 t
  unfold iblk
  exact Memref.read_access_unit_zero (Elt Ideal) main_arg5 (off_zero (fun a => win0_6.index t0_0 a * main_arg5.ty.shape.size a) (fun a => by fin_cases a <;> decide)) (fun a => by rw [congrFun (off_zero (fun a => win0_6.index t0_0 a * main_arg5.ty.shape.size a) (fun a => by fin_cases a <;> decide)) a]; simp) (V m c main_arg5)

/-! ## The first layer -/

/-- A layer's value out of one sum over the 27 places of its window, tap by tap. -/
theorem layer_of_one_sum {O n : ℕ} {h : Image 3} {W : Weights 3 O} {b : Fin 4} {r c : ℕ} {o : Fin O} (hr : r < n) (hc : c < n)
    (g : Fin 27 → EReal)
    (hg : ∀ (t : Fin 9) (k : Fin 3), g ⟨t.val * 3 + k.val, by omega⟩ = h b (2 * r + t.val / 3) (2 * c + t.val % 3) k * W t k o) :
    max (∑ x, g x) 0 = layer n h W b r c o := by
  have e : ∑ x, g x = ∑ t : Fin 9, ∑ k : Fin 3, h b (2 * r + t.val / 3) (2 * c + t.val % 3) k * W t k o := by
    rw [← (finProdFinEquiv (m := 9) (n := 3)).sum_comp g, Fintype.sum_prod_type]
    refine Finset.sum_congr rfl fun t _ => Finset.sum_congr rfl fun k _ => ?_
    rw [← hg t k]
    exact congrArg g (Fin.ext (by simp only [finProdFinEquiv_apply_val]; omega))
  rw [e]
  unfold layer taps tap
  rw [if_pos ⟨hr, hc⟩]
  simp only [Fin.sum_univ_castSucc (n := 8), Fin.sum_univ_eight]
  rfl

theorem firstLayer (t : Fin cfg0.N) : FirstLayer (image1 (m ((c : Thread nD τ).loc main_arg0)) (m ((c : Thread nD τ).loc main_arg1)))
    (iblk m c 0 t) (iblk m c 1 t) := by
  intro p b I J o
  rw [iblk_0, iblk_1]
  exact layer_of_one_sum (by omega) (by omega) _ fun t k => by
    dsimp only
    rw [V_v32 m c b I J p t k, V_v34 m c t k o]

end Cert.KernelIdeal.Body

end
-- ==== Proof.Value.lean ====
/-
  The kernel's result: at every pixel the fourth powers of the differences between the query and its nearest key, added,
  of the arguments as launched.
-/
module

public import proofs.«01_k».proof.Proof.Frame
public import proofs.«01_k».proof.Proof.BodyValue
public import proofs.«01_k».proof.Proof.HostInputs

@[expose] public section

set_option maxRecDepth 16384

noncomputable section

namespace Cert.KernelIdeal.Body

open Cert.KernelIdeal Cert.KernelIdeal.Gen Cert.Math
open Idealize.ShloMosaic Idealize.ShloMosaic.TcCoe Idealize.ShloMosaic.Tactic Idealize.ShloMosaic.StableHlo Idealize.SL.Sem
open Idealize.ShloMosaic.Pipeline (Dat)

/-- Every query has a nearest key. -/
theorem exists_nearest {q : Fin 128 → EReal} (hq : Finite q) (K : Fin 512 → Fin 128 → EReal) : ∃ i, Nearest q K i :=
  (exists_firstMax (n := 512) (by decide) fun j => score q (K j)).imp fun _ h => nearest_of_firstMax (fun _ _ => score_lt_iff hq _ _) h

variable (m : (ℓ : Loc nD τ sig) → Buf (Elt Ideal) ℓ) (ρ : Dev nD → PrngReg)

/-- The query of a pixel, of the arguments as launched. -/
abbrev queryAt (c : Dev nD) (b : Fin 4) (I J : Fin 14) : Fin 128 → EReal :=
  query (m ((c : Thread nD τ).loc main_arg0)) (m ((c : Thread nD τ).loc main_arg1)) (m ((c : Thread nD τ).loc main_arg2))
    (m ((c : Thread nD τ).loc main_arg3)) (m ((c : Thread nD τ).loc main_arg4)) b I.val J.val

/-- The keys, as launched. -/
abbrev keysAt (c : Dev nD) : Fin 512 → Fin 128 → EReal := keyRow (m ((c : Thread nD τ).loc main_arg5))

theorem nearest_at (c : Dev nD) (b : Fin 4) (I J : Fin 14) : ∃ i, Nearest (queryAt m c b I J) (keysAt m c) i :=
  exists_nearest (query_finite _ _ _ _ _ b I.val J.val) _

/-- The result. -/
def out (c : Dev nD) : S4x14x14.Idx → EReal := fun y =>
  heat (queryAt m c (y 0) (y 1) (y 2)) (keysAt m c (nearest_at m c (y 0) (y 1) (y 2)).choose)

theorem leaves (c : Dev nD) (t : Fin cfg0.N) : LeavesAt m c t (fun X => X = out m c) := by
  intro f0 f1 f2 f3 f4 f5 f6 f7 f8 f9 f10 e0 e1 e2 e3 e4 e5 e6
  funext y
  have hy : y = ix3 (y 0) (y 1) (y 2) := by funext a; fin_cases a <;> rfl
  obtain ⟨i, hi⟩ : ∃ i, i = (nearest_at m c (y 0) (y 1) (y 2)).choose := ⟨_, rfl⟩
  have hn := (nearest_at m c (y 0) (y 1) (y 2)).choose_spec
  show _ = heat (queryAt m c (y 0) (y 1) (y 2)) (keysAt m c (nearest_at m c (y 0) (y 1) (y 2)).choose)
  rw [← hi] at hn ⊢
  have e6' := (e6.trans (iblk_6 m c t)).trans (V_main_arg5 m c)
  refine ((congrArg _ hy).trans (result_apply c _ _ _ _ _ _ _ _ _ _ _ _ _ _ _ _ _ _ _ _ _ _ f0 f1 f2 f3 f4 f5 f6 f7 f8 f9 f10
    (h := image1 (m ((c : Thread nD τ).loc main_arg0)) (m ((c : Thread nD τ).loc main_arg1)))
    (W2 := weights (m ((c : Thread nD τ).loc main_arg2))) (W3 := weights (m ((c : Thread nD τ).loc main_arg3)))
    (W4 := weights (m ((c : Thread nD τ).loc main_arg4)))
    (layer_zeroFrom _ _) (by rw [e0, e1]; exact firstLayer m c t)
    (fun x j => by rw [e5, e6', iblk_5]; exact V_v41 m c x j)
    (fun t k o => by rw [e2, iblk_2]; exact V_v36 m c t k o)
    (fun t k o => by rw [e3, iblk_3]; exact V_v38 m c t k o)
    (fun t k o => by rw [e4, iblk_4]; exact V_v40 m c t k o)
    (y 0) (y 1) (y 2) (i := i) (by rw [e6']; exact hn))).trans ?_
  rw [e6']
  rfl

/-- The one write-back writes it. -/
theorem flushed_eq (c : Dev nD) (t : Fin cfg0.N) (hf : (cfg0.win 7).flush t = true) :
    (dats m (out m) 0 c).flushed 7 t = ((cfg0.win 7).blk t).view.read (Elt Ideal) (out m c) := by
  obtain rfl := fin_N0 t
  have hz : (fun a => win0_7.index t0_0 a * main_v42.ty.shape.size a) = fun _ => 0 := funext fun a => by fin_cases a <;> decide
  exact (Memref.read_access_unit_zero (Elt Ideal) main_v42 hz (fun a => by rw [congrFun hz a]; simp) (out m c)).symm

/-- So the kernel's array ends holding it. -/
theorem final_v42 (c : Dev nD) : (dats m (out m) 0 c).arrAt 7 cfg0.N = out m c :=
  (dats m (out m) 0 c).arrAt_eq_of_cover 7 (out m c) (flushed_eq m c) fun i =>
    ⟨t0_0, by decide, by
      show i ∈ ((View.whole main_v42).slice (win0_7.rect t0_0)).set
      rw [View.set_slice_whole, Rect.mem_set_unit]
      intro a
      have hz : win0_7.index t0_0 a * win0_7.size a = 0 := by fin_cases a <;> decide +kernel
      have hs : win0_7.xsize (grid0.coords t0_0) a = main_v42.ty.shape.size a := by fin_cases a <;> decide +kernel
      show win0_7.index t0_0 a * win0_7.size a ≤ (i a : Nat) ∧ (i a : Nat) < win0_7.index t0_0 a * win0_7.size a + win0_7.xsize (grid0.coords t0_0) a
      rw [hz, hs]
      exact ⟨Nat.zero_le _, by rw [Nat.zero_add]; exact (i a).isLt⟩⟩

/-- The host line after the kernel only adds an axis. -/
theorem tail_v43 (c : Dev nD) (b : Fin 4) (I J : Fin 14) (z : Fin 1) :
    (Pipeline.afterTail₀ cfgs (dats m (out m)) 0 (V0 m) [hostOps1] c main_v43 : S4x14x14x1.Idx → EReal) (ix4 b I J z)
      = out m c (ix3 b I J) := by
  unfold Pipeline.afterTail₀
  simp only [List.flatten_cons, List.flatten_nil, List.append_nil]
  have h7 := Pipeline.withArrays_arr spec0 (by decide) c (V0 m c) (fun w => (dats m (out m) 0 c).arrAt w cfg0.N) 7
  rw [final_v42] at h7
  generalize hW : Pipeline.withArrays (cfgs 0).spec c (V0 m c) (fun w => (dats m (out m) 0 c).arrAt w (cfgs 0).N) = W at h7 ⊢
  after_reads_at
  exact congrFun h7 (ix3 b I J)

/-- The result with its last axis. -/
def result (c : Dev nD) : Buf (Elt Ideal) ((c.tc : Thread nD τ).loc main_v43) := fun y : S4x14x14x1.Idx => out m c (ix3 (y 0) (y 1) (y 2))

theorem tail_eq (c : Dev nD) : Pipeline.afterTail₀ cfgs (dats m (out m)) 0 (V0 m) [hostOps1] c main_v43 = result m c :=
  funext fun y : S4x14x14x1.Idx => by
    have hy : y = ix4 (y 0) (y 1) (y 2) (y 3) := by funext a; fin_cases a <;> rfl
    rw [hy]
    exact tail_v43 m c (y 0) (y 1) (y 2) (y 3)

set_option backward.isDefEq.respectTransparency.types false in
/-- The run, read: the result named, the arguments unchanged. -/
theorem run : θ_run defs (onTc (τ := τ) (main (F := Ideal))) ⟨m, fun _ => 0, ρ⟩ (fun r => ∀ c : Dev nD,
      r.2.mem ((c.tc : Thread nD τ).loc main_v43) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_frame_around cfgs (dats m (out m)) (0 : Fin 1) launch0 defs₀ Variants.none m ρ main
    (fun c => (obligation_exact m (out m) (leaves m) c).loose) (fun c => (dats m (out m) 0 c).share_full fun _ => rfl) (fun _ _ => rfl)
    (V0 m) [hostOps1] sfx_sub sfx_fresh sfx_keeps (hmain m Variants.none) (A_eq m (out m)) (fun _ _ => rfl) _ ?_
  rintro r ⟨h, -⟩ c
  exact ⟨((h c).2 main_v43 (Pipeline.mem_restRefs_of main_v43 (by decide) (by decide))).trans (tail_eq m c),
    ((h c).2 main_arg0 (Pipeline.mem_restRefs_of main_arg0 (by decide) (by decide))).trans (W_main_arg0 m (dats m (out m)) c),
    ((h c).2 main_arg1 (Pipeline.mem_restRefs_of main_arg1 (by decide) (by decide))).trans (W_main_arg1 m (dats m (out m)) c),
    ((h c).2 main_arg2 (Pipeline.mem_restRefs_of main_arg2 (by decide) (by decide))).trans (W_main_arg2 m (dats m (out m)) c),
    ((h c).2 main_arg3 (Pipeline.mem_restRefs_of main_arg3 (by decide) (by decide))).trans (W_main_arg3 m (dats m (out m)) c),
    ((h c).2 main_arg4 (Pipeline.mem_restRefs_of main_arg4 (by decide) (by decide))).trans (W_main_arg4 m (dats m (out m)) c),
    ((h c).1 6).trans (((dats m (out m) 0 c).arrAt_in 6 rfl _).trans ((A_eq m (out m) c 6).trans (V_main_arg5 m c)))⟩

end Cert.KernelIdeal.Body

end
-- ==== Proof.RefLayers.lean ====
/-
  The reference's four layers. Each of its padded results, read at a position, is the layer of the one before.
-/
module

public import proofs.«01_k».proof.Proof.Gen.ReferenceIdeal.Run
public import proofs.«01_k».proof.Proof.Inputs
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Cert.Math
open Idealize.ShloMosaic Idealize.ShloMosaic.TcCoe Idealize.ShloMosaic.Tactic

variable (V : Valuation τ sig (Elt Ideal))

/-- The padding's zero. -/
theorem pad_zero : (FloatOps.sitofp .f32 0#32 : Ideal .f32) = (0 : EReal) := by
  show (((0 : ℤ) : ℝ) : EReal) = 0
  norm_num

/-- The padded image. -/
theorem ref0 (b : Fin 4) (k : Fin 3) (r c : Fin 225) :
    res_main_v0 (F := Ideal) V (ix4 b k r c) = picture (V (Proc.devRef .tc main_arg0)) b r.val c.val k := by
  unfold res_main_v0
  clean_types
  pointwise
  rw [pad_zero]
  rfl

set_option maxHeartbeats 4000000 in
/-- The padded result of layer 1. -/
theorem ref1 (b : Fin 4) (k : Fin 32) (r c : Fin 113) :
    res_main_v49 (F := Ideal) V (ix4 b k r c) = image1 (V (Proc.devRef .tc main_arg0)) (V (Proc.devRef .tc main_arg1)) b r.val c.val k := by
  have hX := ref0 V
  unfold res_main_v49
  clean_types
  pointwise
  split
  · rename_i hrc
    obtain ⟨hr, hc⟩ := hrc
    refine layer_of_sums (W := weights (V (Proc.devRef .tc main_arg1))) hr hc (fun x => ?_)
      (fun x => ?_) (fun x => ?_) (fun x => ?_) (fun x => ?_) (fun x => ?_) (fun x => ?_) (fun x => ?_) (fun x => ?_)
    all_goals refine (hX _ _ _ _).trans ?_
    all_goals simp only [Nat.add_zero, Nat.add_comm (2 * _) 1, Nat.add_comm (2 * _) 2]
    all_goals rfl
  · rename_i hrc
    rw [pad_zero]
    exact (layer_outside (by omega)).symm

set_option maxHeartbeats 4000000 in
/-- The padded result of layer 2. -/
theorem ref2 (b : Fin 4) (k : Fin 64) (r c : Fin 57) :
    res_main_v98 (F := Ideal) V (ix4 b k r c) = image2 (V (Proc.devRef .tc main_arg0)) (V (Proc.devRef .tc main_arg1)) (V (Proc.devRef .tc main_arg2)) b r.val c.val k := by
  have hX := ref1 V
  unfold res_main_v98
  clean_types
  pointwise
  split
  · rename_i hrc
    obtain ⟨hr, hc⟩ := hrc
    refine layer_of_sums (W := weights (V (Proc.devRef .tc main_arg2))) hr hc (fun x => ?_)
      (fun x => ?_) (fun x => ?_) (fun x => ?_) (fun x => ?_) (fun x => ?_) (fun x => ?_) (fun x => ?_) (fun x => ?_)
    all_goals refine (hX _ _ _ _).trans ?_
    all_goals simp only [Nat.add_zero, Nat.add_comm (2 * _) 1, Nat.add_comm (2 * _) 2]
    all_goals rfl
  · rename_i hrc
    rw [pad_zero]
    exact (layer_outside (by omega)).symm

set_option maxHeartbeats 4000000 in
/-- The padded result of layer 3. -/
theorem ref3 (b : Fin 4) (k : Fin 128) (r c : Fin 29) :
    res_main_v147 (F := Ideal) V (ix4 b k r c) = image3 (V (Proc.devRef .tc main_arg0)) (V (Proc.devRef .tc main_arg1)) (V (Proc.devRef .tc main_arg2)) (V (Proc.devRef .tc main_arg3)) b r.val c.val k := by
  have hX := ref2 V
  unfold res_main_v147
  clean_types
  pointwise
  split
  · rename_i hrc
    obtain ⟨hr, hc⟩ := hrc
    refine layer_of_sums (W := weights (V (Proc.devRef .tc main_arg3))) hr hc (fun x => ?_)
      (fun x => ?_) (fun x => ?_) (fun x => ?_) (fun x => ?_) (fun x => ?_) (fun x => ?_) (fun x => ?_) (fun x => ?_)
    all_goals refine (hX _ _ _ _).trans ?_
    all_goals simp only [Nat.add_zero, Nat.add_comm (2 * _) 1, Nat.add_comm (2 * _) 2]
    all_goals rfl
  · rename_i hrc
    rw [pad_zero]
    exact (layer_outside (by omega)).symm

set_option maxHeartbeats 4000000 in
/-- The result of layer 4, which is not padded. -/
theorem ref4 (b : Fin 4) (k : Fin 128) (r c : Fin 14) :
    res_main_v195 (F := Ideal) V (ix4 b k r c) = image4 (V (Proc.devRef .tc main_arg0)) (V (Proc.devRef .tc main_arg1)) (V (Proc.devRef .tc main_arg2)) (V (Proc.devRef .tc main_arg3)) (V (Proc.devRef .tc main_arg4)) b r.val c.val k := by
  have hX := ref3 V
  have hr := r.isLt
  have hc := c.isLt
  unfold res_main_v195
  clean_types
  pointwise
  refine layer_of_sums (W := weights (V (Proc.devRef .tc main_arg4))) hr hc (fun x => ?_)
    (fun x => ?_) (fun x => ?_) (fun x => ?_) (fun x => ?_) (fun x => ?_) (fun x => ?_) (fun x => ?_) (fun x => ?_)
  all_goals refine (hX _ _ _ _).trans ?_
  all_goals simp only [Nat.add_zero, Nat.add_comm (2 * _) 1, Nat.add_comm (2 * _) 2]
  all_goals rfl

end Cert.ReferenceIdeal.Value

end
-- ==== Proof.FirstOfSort.lean ====
/-
  The first position of a stable sort, greatest first: the first place of the largest.
-/
module

public import proofs.«01_k».proof.Proof.Nearest
public import Idealize.ShloMosaic.Lib.Pointwise

@[expose] public section

noncomputable section

namespace Cert.Math

open Idealize.ShloMosaic

/-- The head of the stable sort of an increasing list of places by `f`, greatest first. -/
theorem head_stableSort {n : ℕ} (f : Fin n → EReal) (i : Fin n) (l : List (Fin n)) (hl : l.Pairwise (· < ·)) (hi : i ∈ l)
    (hmax : ∀ j ∈ l, f j ≤ f i) (hfirst : ∀ j ∈ l, j < i → f j < f i) :
    ∃ t, stableSort (fun k k' => decide (f k' < f k)) l = i :: t := by
  induction l with
  | nil => exact absurd hi List.not_mem_nil
  | cons a l ih =>
    obtain ⟨ha, hl'⟩ := List.pairwise_cons.mp hl
    unfold stableSort
    by_cases hia : i = a
    · subst hia
      rcases hs : stableSort (fun k k' => decide (f k' < f k)) l with _ | ⟨b, t⟩
      · exact ⟨[], rfl⟩
      · have hb : b ∈ l := (perm_stableSort _ l).mem_iff.mp (hs ▸ List.mem_cons_self)
        refine ⟨b :: t, ?_⟩
        rw [insertBefore, if_neg]
        simpa using hmax b (List.mem_cons_of_mem _ hb)
    · have hil : i ∈ l := (List.mem_cons.mp hi).resolve_left hia
      obtain ⟨t, ht⟩ := ih hl' hil (fun j hj => hmax j (List.mem_cons_of_mem _ hj)) (fun j hj => hfirst j (List.mem_cons_of_mem _ hj))
      rw [ht, insertBefore, if_pos (decide_eq_true (hfirst a List.mem_cons_self (ha i hil)))]
      exact ⟨_, rfl⟩

/-- The position a stable sort puts first. -/
theorem sortedFrom_first {n : ℕ} {f : Fin n → EReal} {i : Fin n} (h : FirstMax f i) (z : Fin n) (hz : z.val = 0) :
    sortedFrom (fun k k' => decide (f k' < f k)) z = i := by
  obtain ⟨t, ht⟩ := head_stableSort f i (List.finRange n) (List.pairwise_lt_finRange n) (List.mem_finRange i) (fun j _ => h.1 j)
    (fun j _ hj => h.2 j hj)
  unfold sortedFrom
  rw [List.get_eq_getElem, ← Option.some_inj, ← List.getElem?_eq_getElem]
  show (sortPositions n _)[z.val]? = _
  rw [sortPositions, ht, hz]
  rfl

/-- The index a top-1 of the rows gives a row: the first place of its largest. -/
theorem topK_first {m n : ℕ} (x : (⟨2, ![m, n + 1]⟩ : Shape).Idx → EReal) (h : (⟨2, ![m, n + 1]⟩ : Shape).Slices (fun _ => 0) ⟨2, ![m, 1]⟩)
    (p : Fin m) {i : Fin (n + 1)} (hi : FirstMax (fun j => x (ix2 p j)) i) :
    (Host.topK ⟨2, ![m, 1]⟩ 1 (FloatOps.cmpfTotal (F := Ideal) (φ := .f32) .gt) x h).2 (ix2 p 0) = BitVec.ofNat 32 i.val := by
  have e : ∀ k : Fin (n + 1), (ix2 p (0 : Fin (n + 1)) : (⟨2, ![m, n + 1]⟩ : Shape).Idx).along 1 k = ix2 p k := fun k => by
    funext a
    fin_cases a <;> rfl
  have hs : sortedFrom (fun k k' : Fin (n + 1) => (FloatOps.cmpfTotal (F := Ideal) (φ := .f32) .gt
      (x ((ix2 p (0 : Fin (n + 1)) : (⟨2, ![m, n + 1]⟩ : Shape).Idx).along 1 k))
      (x ((ix2 p (0 : Fin (n + 1)) : (⟨2, ![m, n + 1]⟩ : Shape).Idx).along 1 k')) == 1#1)) (0 : Fin (n + 1)) = i := by
    refine Eq.trans (congrArg (fun B => sortedFrom B (0 : Fin (n + 1))) (funext fun k => funext fun k' => ?_)) (sortedFrom_first hi 0 rfl)
    rw [e, e]
    show (BitVec.ofBool (decide (x (ix2 p k') < x (ix2 p k))) == 1#1) = _
    cases decide (x (ix2 p k') < x (ix2 p k)) <;> rfl
  unfold Host.topK
  dsimp only
  unfold extractStridedSlice
  have key : ∀ J : (⟨2, ![m, n + 1]⟩ : Shape).Idx, J = ix2 p 0 →
      (Host.sort2 ⟨2, ![m, n + 1]⟩ 1 (fun l r => FloatOps.cmpfTotal (F := Ideal) (φ := .f32) .gt l.1 r.1) x
        (fun i : (⟨2, ![m, n + 1]⟩ : Shape).Idx => if hd : 1 < (⟨2, ![m, n + 1]⟩ : Shape).rank then iotaInDim ⟨2, ![m, n + 1]⟩ 32 ⟨1, hd⟩ i else 0#32)).2 J
        = BitVec.ofNat 32 i.val := by
    rintro _ rfl
    unfold Host.sort2
    rw [dif_pos (show 1 < (⟨2, ![m, n + 1]⟩ : Shape).rank from (by decide : 1 < 2))]
    dsimp only
    rw [dif_pos (show 1 < (⟨2, ![m, n + 1]⟩ : Shape).rank from (by decide : 1 < 2))]
    exact congrArg (fun z : Fin (n + 1) => BitVec.ofNat 32 z.val) hs
  refine key _ (funext fun a => ?_)
  fin_cases a <;> exact Fin.ext (Nat.zero_add _)

end Cert.Math

end
-- ==== Proof.RefHead.lean ====
/-
  The reference's head: the queries, their mean squared differences from the keys negated, the index of the largest, the
  key taken there, and the heat of each pixel.
-/
module

public import proofs.«01_k».proof.Proof.Gen.ReferenceIdeal.Run
public import proofs.«01_k».proof.Proof.RefLayers
public import proofs.«01_k».proof.Proof.FirstOfSort
public import Idealize.ShloMosaic.Lib.Routing.Ops
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Cert.Math
open Idealize.ShloMosaic Idealize.ShloMosaic.TcCoe Idealize.ShloMosaic.Tactic

variable (V : Valuation τ sig (Elt Ideal))

/-- The query of a pixel, the pixels in row-major order. -/
theorem ref_query (p : Fin 784) (k : Fin 128) : res_main_v202 (F := Ideal) V (ix2 p k) = (query (V (Proc.devRef .tc main_arg0)) (V (Proc.devRef .tc main_arg1)) (V (Proc.devRef .tc main_arg2)) (V (Proc.devRef .tc main_arg3)) (V (Proc.devRef .tc main_arg4)) ⟨p.val / 196, by omega⟩ (p.val / 14 % 14) (p.val % 14)) k := by
  have h := ref4 V
  unfold res_main_v202
  clean_types
  pointwise
  simp only [h]
  rfl

/-- What the pixels' keys are ranked by. -/
theorem ref_rank (p : Fin 784) (j : Fin 512) : res_main_v212 (F := Ideal) V (ix2 p j)
    = -(Ideal.div (Cert.Math.dist (query (V (Proc.devRef .tc main_arg0)) (V (Proc.devRef .tc main_arg1)) (V (Proc.devRef .tc main_arg2)) (V (Proc.devRef .tc main_arg3)) (V (Proc.devRef .tc main_arg4)) ⟨p.val / 196, by omega⟩ (p.val / 14 % 14) (p.val % 14)) ((keyRow (V (Proc.devRef .tc main_arg5))) j)) (Ideal.ofBits .f32 0x43000000#32)) := by
  have h := ref_query V
  unfold res_main_v212 res_main_v207
  clean_types
  pointwise
  simp only [h]
  rfl

/-- The index taken: the nearest key's. -/
theorem ref_index (p : Fin 784) {i : Fin 512} (hi : Nearest (query (V (Proc.devRef .tc main_arg0)) (V (Proc.devRef .tc main_arg1)) (V (Proc.devRef .tc main_arg2)) (V (Proc.devRef .tc main_arg3)) (V (Proc.devRef .tc main_arg4)) ⟨p.val / 196, by omega⟩ (p.val / 14 % 14) (p.val % 14)) (keyRow (V (Proc.devRef .tc main_arg5))) i) : res_main_v213 (F := Ideal) V (ix1 p) = BitVec.ofNat 32 i.val := by
  have hm : FirstMax (fun j => res_main_v212 (F := Ideal) V (ix2 p j)) i := by
    refine ⟨fun j => not_lt.mp fun hlt => ?_, fun j hj => ?_⟩
    · simp only [ref_rank] at hlt
      exact absurd (hi.1 j) (not_le.mpr ((neg_mean_lt_iff _ _).mp hlt))
    · simp only [ref_rank]
      exact (neg_mean_lt_iff _ _).mpr (hi.2 j hj)
  have ht := topK_first (m := 784) (n := 511) (fun y => res_main_v212 (F := Ideal) V y) sliceFits_S784x512_S784x1 p hm
  unfold res_main_v213
  clean_types
  pointwise
  exact ht

/-- The index after its wrap, which does nothing. -/
theorem ref_wrapped (p : Fin 784) (z : Fin 1) {i : Fin 512} (hi : Nearest (query (V (Proc.devRef .tc main_arg0)) (V (Proc.devRef .tc main_arg1)) (V (Proc.devRef .tc main_arg2)) (V (Proc.devRef .tc main_arg3)) (V (Proc.devRef .tc main_arg4)) ⟨p.val / 196, by omega⟩ (p.val / 14 % 14) (p.val % 14)) (keyRow (V (Proc.devRef .tc main_arg5))) i) :
    res_main_call9_v5 (F := Ideal) V (ix2 p z) = BitVec.ofNat 32 i.val := by
  have h := ref_index V p hi
  unfold res_main_call9_v5
  clean_types
  pointwise
  rw [h, place_slt_zero]
  rfl

/-- The query less its nearest key. -/
theorem ref_diff (p : Fin 784) (k : Fin 128) {i : Fin 512} (hi : Nearest (query (V (Proc.devRef .tc main_arg0)) (V (Proc.devRef .tc main_arg1)) (V (Proc.devRef .tc main_arg2)) (V (Proc.devRef .tc main_arg3)) (V (Proc.devRef .tc main_arg4)) ⟨p.val / 196, by omega⟩ (p.val / 14 % 14) (p.val % 14)) (keyRow (V (Proc.devRef .tc main_arg5))) i) :
    res_main_v215 (F := Ideal) V (ix2 p k) = (query (V (Proc.devRef .tc main_arg0)) (V (Proc.devRef .tc main_arg1)) (V (Proc.devRef .tc main_arg2)) (V (Proc.devRef .tc main_arg3)) (V (Proc.devRef .tc main_arg4)) ⟨p.val / 196, by omega⟩ (p.val / 14 % 14) (p.val % 14)) k - (keyRow (V (Proc.devRef .tc main_arg5))) i k := by
  have h1 := ref_query V p k
  have h2 := fun z => ref_wrapped V p z hi
  have hg := Routing.gather_row (α := EReal) gather_S512x128_S784x1_S784x128_1_0_n_n_0_1_1128 rfl rfl rfl rfl rfl
    (V (Proc.devRef .tc main_arg5)) (res_main_call9_v5 (F := Ideal) V) p k i (h2 0) (by norm_num)
  unfold res_main_v215
  clean_types
  pointwise
  simp only [h1, h2, place_sge_zero, place_sle_last]
  rw [show Finset.univ.fold IntOp.andi 1#1 (fun x : Fin 1 => IntOp.andi 1#1 1#1) = 1#1 from by decide]
  exact congrArg (fun z : EReal => (query (V (Proc.devRef .tc main_arg0)) (V (Proc.devRef .tc main_arg1)) (V (Proc.devRef .tc main_arg2)) (V (Proc.devRef .tc main_arg3)) (V (Proc.devRef .tc main_arg4)) ⟨p.val / 196, by omega⟩ (p.val / 14 % 14) (p.val % 14)) k - z) hg

/-- A pixel's result. -/
theorem ref_heat (b : Fin 4) (I J : Fin 14) (z : Fin 1) {i : Fin 512} (hi : Nearest (query (V (Proc.devRef .tc main_arg0)) (V (Proc.devRef .tc main_arg1)) (V (Proc.devRef .tc main_arg2)) (V (Proc.devRef .tc main_arg3)) (V (Proc.devRef .tc main_arg4)) b I.val J.val) (keyRow (V (Proc.devRef .tc main_arg5))) i) :
    (shapeCast S4x14x14x1 (Host.reduceAdd (F := Ideal) (φ := .f32) (mulf (res_main_v216 (F := Ideal) V) (res_main_v216 (F := Ideal) V)) (constant S_ .f32 0x00000000#32) reducesTo_S784x128_S784_d1 h_S_) shapeCasts_S784_S4x14x14x1 : FVec Ideal S4x14x14x1 .f32) (ix4 b I J z)
      = heat (query (V (Proc.devRef .tc main_arg0)) (V (Proc.devRef .tc main_arg1)) (V (Proc.devRef .tc main_arg2)) (V (Proc.devRef .tc main_arg3)) (V (Proc.devRef .tc main_arg4)) b I.val J.val) ((keyRow (V (Proc.devRef .tc main_arg5))) i) := by
  have hI := I.isLt
  have hJ := J.isLt
  have hb := b.isLt
  unfold res_main_v216
  clean_types
  pointwise
  generalize hp : (⟨b.val * 196 + I.val * 14 + J.val, _⟩ : Fin 784) = p
  have hv : p.val = b.val * 196 + I.val * 14 + J.val := congrArg Fin.val hp.symm
  have eb : (⟨p.val / 196, by omega⟩ : Fin 4) = b := Fin.ext (by show p.val / 196 = b.val; omega)
  have eI : p.val / 14 % 14 = I.val := by omega
  have eJ : p.val % 14 = J.val := by omega
  have hd := fun x => ref_diff V p x (i := i) (by rw [eb, eI, eJ]; exact hi)
  simp only [eb, eI, eJ] at hd
  simp only [hd]
  rfl

end Cert.ReferenceIdeal.Value

end
-- ==== Proof.Algebraic.lean ====
/-
  The two programs' results are one array: at every pixel both add the fourth powers of the differences between the query
  and the nearest key, and the nearest key is one key.
-/
module

public import proofs.«01_k».proof.Defs
public import proofs.«01_k».proof.Proof.Value
public import proofs.«01_k».proof.Proof.RefHead
public import Idealize.ShloMosaic.Lib.Claim

@[expose] public section

set_option maxRecDepth 16384

noncomputable section

namespace Cert.ReferenceIdeal.Value

open Cert.ReferenceIdeal Cert.ReferenceIdeal.Gen Cert.Math Idealize.ShloMosaic Idealize.ShloMosaic.TcCoe Idealize.SL.Sem Idealize.ShloMosaic.StableHlo

/-- The reference's result is the kernel's, from one launch of the arguments. -/
theorem results_agree (m : (ℓ : Loc Cert.KernelIdeal.nD Cert.KernelIdeal.τ Cert.KernelIdeal.sig) → Buf (Elt Ideal) ℓ)
    (c : Dev Cert.KernelIdeal.nD) (V : Valuation τ sig (Elt Ideal))
    (h0 : V (Proc.devRef .tc main_arg0) = m ((c.tc : Thread Cert.KernelIdeal.nD Cert.KernelIdeal.τ).loc Cert.KernelIdeal.main_arg0))
    (h1 : V (Proc.devRef .tc main_arg1) = m ((c.tc : Thread Cert.KernelIdeal.nD Cert.KernelIdeal.τ).loc Cert.KernelIdeal.main_arg1))
    (h2 : V (Proc.devRef .tc main_arg2) = m ((c.tc : Thread Cert.KernelIdeal.nD Cert.KernelIdeal.τ).loc Cert.KernelIdeal.main_arg2))
    (h3 : V (Proc.devRef .tc main_arg3) = m ((c.tc : Thread Cert.KernelIdeal.nD Cert.KernelIdeal.τ).loc Cert.KernelIdeal.main_arg3))
    (h4 : V (Proc.devRef .tc main_arg4) = m ((c.tc : Thread Cert.KernelIdeal.nD Cert.KernelIdeal.τ).loc Cert.KernelIdeal.main_arg4))
    (h5 : V (Proc.devRef .tc main_arg5) = m ((c.tc : Thread Cert.KernelIdeal.nD Cert.KernelIdeal.τ).loc Cert.KernelIdeal.main_arg5))
    (y : S4x14x14x1.Idx) :
    (shapeCast S4x14x14x1 (Host.reduceAdd (F := Ideal) (φ := .f32)
      (mulf (res_main_v216 V) (res_main_v216 V))
      (constant S_ .f32 0x00000000#32) reducesTo_S784x128_S784_d1 h_S_)
      shapeCasts_S784_S4x14x14x1 : FVec Ideal S4x14x14x1 .f32) y
      = Cert.KernelIdeal.Body.result m c y := by
  have hy : y = ix4 (y 0) (y 1) (y 2) (y 3) := by funext a; fin_cases a <;> rfl
  have hn := (Cert.KernelIdeal.Body.nearest_at m c (y 0) (y 1) (y 2)).choose_spec
  refine (congrArg _ hy).trans ((ref_heat V (y 0) (y 1) (y 2) (y 3)
    (i := (Cert.KernelIdeal.Body.nearest_at m c (y 0) (y 1) (y 2)).choose) (by rw [h0, h1, h2, h3, h4, h5]; exact hn)).trans ?_)
  rw [h0, h1, h2, h3, h4, h5]
  rfl

end Cert.ReferenceIdeal.Value

namespace Cert.Proof

open Idealize.ShloMosaic Idealize.ShloMosaic.TcCoe Idealize.SL.Sem

theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Body.result m c, Cert.KernelIdeal.Body.run m g, ?_⟩
  refine (θ_run Cert.ReferenceIdeal.defs _ _).mono (fun r h c => ⟨(h c).1.trans (funext fun y => ?_), (h c).2⟩)
    (Cert.ReferenceIdeal.Value.run (F := Ideal) m' g')
  exact Cert.ReferenceIdeal.Value.results_agree m c (StableHlo.launchContents m' c) (hagree c).1 (hagree c).2.1 (hagree c).2.2.1
    (hagree c).2.2.2.1 (hagree c).2.2.2.2.1 (hagree c).2.2.2.2.2 y

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frame
public import proofs.«01_k».proof.Proof.FrameWords
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem frame_P : Cert.quiescent_Kernel (hKernel := Cert.Kernel.Gen.facts) := fun m ρ _ => Cert.Kernel.Body.frame (F := Bits) m ρ

theorem frame_PI : Cert.quiescent_KernelIdeal (hKernelIdeal := Cert.KernelIdeal.Gen.facts) := fun m ρ _ => Cert.KernelIdeal.Body.frame (F := Ideal) m ρ

theorem frame_RI : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_P, frame_PI, frame_RI, trivial, algebraic⟩

end Cert.Proof

end
